-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_boxes_valid [hPre_boxes_valid : Cert.Pre_boxes_valid.Facts] (m : (ℓ : Loc Cert.KernelIdeal.nD Cert.KernelIdeal.τ Cert.KernelIdeal.sig) → Buf (Elt Ideal) ℓ) : Prop :=
  ∀ c : Dev Cert.KernelIdeal.nD,
    (Cert.Pre_boxes_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_boxes_valid [hPre_boxes_valid : Cert.Pre_boxes_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_boxes_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_boxes_valid [hKernelIdeal : Cert.KernelIdeal.Facts] [hPre_boxes_valid : Cert.Pre_boxes_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_boxes_valid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_boxes_valid [hReferenceIdeal : Cert.ReferenceIdeal.Facts] [hPre_boxes_valid : Cert.Pre_boxes_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_boxes_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_boxes_valid [hKernelIdeal : Cert.KernelIdeal.Facts] [hReferenceIdeal : Cert.ReferenceIdeal.Facts] [hPre_boxes_valid : Cert.Pre_boxes_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_boxes_valid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v276) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_boxes_valid : Cert.Pre_boxes_valid.Facts),
    quiescent_Kernel (hKernel := hKernel)
    ∧ quiescent_KernelIdeal (hKernelIdeal := hKernelIdeal)
    ∧ quiescent_KernelIdeal_pre_boxes_valid (hKernelIdeal := hKernelIdeal) (hPre_boxes_valid := hPre_boxes_valid)
    ∧ quiescent_ReferenceIdeal (hReferenceIdeal := hReferenceIdeal)
    ∧ quiescent_ReferenceIdeal_pre_boxes_valid (hReferenceIdeal := hReferenceIdeal) (hPre_boxes_valid := hPre_boxes_valid)
    ∧ preserves_Kernel_KernelIdeal
    ∧ algebraic_KernelIdeal_ReferenceIdeal_pre_boxes_valid (hKernelIdeal := hKernelIdeal) (hReferenceIdeal := hReferenceIdeal) (hPre_boxes_valid := hPre_boxes_valid)
-- ==== Pre_boxes_valid.lean ====
abbrev S2x8x32x128x128 : Shape := ⟨5, ![2, 8, 32, 128, 128]⟩
abbrev S2x8x64x4 : Shape := ⟨4, ![2, 8, 64, 4]⟩
abbrev S2x8x64x1 : Shape := ⟨4, ![2, 8, 64, 1]⟩
abbrev S2x8x64 : Shape := ⟨3, ![2, 8, 64]⟩
abbrev S_ : Shape := ⟨0, ![]⟩

class Facts : Prop where
  slices_S2x8x64x4_S2x8x64x1_0_0_0_0 : S2x8x64x4.Slices ![0, 0, 0, 0] S2x8x64x1
  shapeCasts_S2x8x64x1_S2x8x64 : S2x8x64x1.ShapeCasts S2x8x64
  slices_S2x8x64x4_S2x8x64x1_0_0_0_1 : S2x8x64x4.Slices ![0, 0, 0, 1] S2x8x64x1
  slices_S2x8x64x4_S2x8x64x1_0_0_0_2 : S2x8x64x4.Slices ![0, 0, 0, 2] S2x8x64x1
  slices_S2x8x64x4_S2x8x64x1_0_0_0_3 : S2x8x64x4.Slices ![0, 0, 0, 3] S2x8x64x1
  bcast_S_S2x8x64 : S_.BroadcastsInDim S2x8x64 (![] : Fin 0 → Fin S2x8x64.rank)
  reducesTo_S2x8x64_S_d0_1_2 : S2x8x64.ReducesTo [0, 1, 2] S_
  h_S_ : 0 < S_.numel

variable [Facts]

def fn_part1 {F : FTy → Type} [FloatOps F] (main_v7 : IVec S2x8x64 32) (main_v19 : IVec S2x8x64 1) (main_c_2 : IVec S_ 32) : IVec S_ 1 :=
  let main_v20 : IVec S2x8x64 32 := broadcastInDim S2x8x64 ![] bcast_S_S2x8x64 main_c_2
  let main_v21 : IVec S2x8x64 1 := cmpi .sle main_v7 main_v20
  let main_v22 : IVec S2x8x64 1 := andi main_v19 main_v21
  let main_c_3 : IVec S_ 1 := constantI S_ 1 1#1
  let main_v23 : IVec S_ 1 := (fun x v => Host.reduce IntOp.andi x v reducesTo_S2x8x64_S_d0_1_2 h_S_) main_v22 main_c_3
  main_v23

def fn {F : FTy → Type} [FloatOps F] (main_arg0 : FVec F S2x8x32x128x128 .f32) (main_arg1 : IVec S2x8x64x4 32) : IVec S_ 1 :=
  let main_v0 : IVec S2x8x64x1 32 := (extractStridedSlice S2x8x64x1 ![0, 0, 0, 0] · slices_S2x8x64x4_S2x8x64x1_0_0_0_0) main_arg1
  let main_v1 : IVec S2x8x64 32 := shapeCast S2x8x64 main_v0 shapeCasts_S2x8x64x1_S2x8x64
  let main_v2 : IVec S2x8x64x1 32 := (extractStridedSlice S2x8x64x1 ![0, 0, 0, 1] · slices_S2x8x64x4_S2x8x64x1_0_0_0_1) main_arg1
  let main_v3 : IVec S2x8x64 32 := shapeCast S2x8x64 main_v2 shapeCasts_S2x8x64x1_S2x8x64
  let main_v4 : IVec S2x8x64x1 32 := (extractStridedSlice S2x8x64x1 ![0, 0, 0, 2] · slices_S2x8x64x4_S2x8x64x1_0_0_0_2) main_arg1
  let main_v5 : IVec S2x8x64 32 := shapeCast S2x8x64 main_v4 shapeCasts_S2x8x64x1_S2x8x64
  let main_v6 : IVec S2x8x64x1 32 := (extractStridedSlice S2x8x64x1 ![0, 0, 0, 3] · slices_S2x8x64x4_S2x8x64x1_0_0_0_3) main_arg1
  let main_v7 : IVec S2x8x64 32 := shapeCast S2x8x64 main_v6 shapeCasts_S2x8x64x1_S2x8x64
  let main_c : IVec S_ 32 := constantI S_ 32 0#32
  let main_v8 : IVec S2x8x64 32 := broadcastInDim S2x8x64 ![] bcast_S_S2x8x64 main_c
  let main_v9 : IVec S2x8x64 1 := cmpi .sge main_v1 main_v8
  let main_v10 : IVec S2x8x64 1 := cmpi .slt main_v1 main_v5
  let main_v11 : IVec S2x8x64 1 := andi main_v9 main_v10
  let main_c_0 : IVec S_ 32 := constantI S_ 32 128#32
  let main_v12 : IVec S2x8x64 32 := broadcastInDim S2x8x64 ![] bcast_S_S2x8x64 main_c_0
  let main_v13 : IVec S2x8x64 1 := cmpi .sle main_v5 main_v12
  let main_v14 : IVec S2x8x64 1 := andi main_v11 main_v13
  let main_c_1 : IVec S_ 32 := constantI S_ 32 0#32
  let main_v15 : IVec S2x8x64 32 := broadcastInDim S2x8x64 ![] bcast_S_S2x8x64 main_c_1
  let main_v16 : IVec S2x8x64 1 := cmpi .sge main_v3 main_v15
  let main_v17 : IVec S2x8x64 1 := andi main_v14 main_v16
  let main_v18 : IVec S2x8x64 1 := cmpi .slt main_v3 main_v7
  let main_v19 : IVec S2x8x64 1 := andi main_v17 main_v18
  let main_c_2 : IVec S_ 32 := constantI S_ 32 128#32
  fn_part1 (F := F) main_v7 main_v19 main_c_2
-- ==== Kernel.lean ====
abbrev S2x8x32x128x128 : Shape := ⟨5, ![2, 8, 32, 128, 128]⟩
abbrev S2x8x64x4 : Shape := ⟨4, ![2, 8, 64, 4]⟩
abbrev S16x32x128x128 : Shape := ⟨4, ![16, 32, 128, 128]⟩
abbrev S4096 : Shape := ⟨1, ![4096]⟩
abbrev S2x512x1792x56 : Shape := ⟨4, ![2, 512, 1792, 56]⟩
abbrev S1x32x128x128 : Shape := ⟨4, ![1, 32, 128, 128]⟩
abbrev S1x16x1792x56 : Shape := ⟨4, ![1, 16, 1792, 56]⟩
abbrev S128x4096 : Shape := ⟨2, ![128, 4096]⟩
abbrev S896x4096 : Shape := ⟨2, ![896, 4096]⟩
abbrev S1792x128 : Shape := ⟨2, ![1792, 128]⟩
abbrev S1x1x128x128 : Shape := ⟨4, ![1, 1, 128, 128]⟩
abbrev S128x128 : Shape := ⟨2, ![128, 128]⟩
abbrev S1 : Shape := ⟨1, ![1]⟩
abbrev S56x128 : Shape := ⟨2, ![56, 128]⟩
abbrev S128x56 : Shape := ⟨2, ![128, 56]⟩
abbrev S896x128 : Shape := ⟨2, ![896, 128]⟩
abbrev S1792x56 : Shape := ⟨2, ![1792, 56]⟩
abbrev S1x1x1792x56 : Shape := ⟨4, ![1, 1, 1792, 56]⟩
abbrev S2x512x32x56x56 : Shape := ⟨5, ![2, 512, 32, 56, 56]⟩

abbrev nBuf : Space → Nat
  | .hbm => 6
  | .vmem => 7
  | .smem => 1
  | _ => 0

abbrev bufTy : (tb : Table) → Fin (tcTables nBuf tb) → BufTy
  | .hbm, ⟨0, _⟩ => ⟨S2x8x32x128x128, .f32⟩
  | .hbm, ⟨1, _⟩ => ⟨S2x8x64x4, .i32⟩
  | .hbm, ⟨2, _⟩ => ⟨S16x32x128x128, .f32⟩
  | .hbm, ⟨3, _⟩ => ⟨S4096, .i32⟩
  | .hbm, ⟨4, _⟩ => ⟨S2x512x1792x56, .f32⟩
  | .hbm, ⟨5, _⟩ => ⟨S2x512x32x56x56, .f32⟩
  | .local _ .vmem, ⟨0, _⟩ => ⟨S1x32x128x128, .f32⟩
  | .local _ .vmem, ⟨1, _⟩ => ⟨S1x32x128x128, .f32⟩
  | .local _ .vmem, ⟨2, _⟩ => ⟨S1x16x1792x56, .f32⟩
  | .local _ .vmem, ⟨3, _⟩ => ⟨S1x16x1792x56, .f32⟩
  | .local _ .vmem, ⟨4, _⟩ => ⟨S128x4096, .bf16⟩
  | .local _ .vmem, ⟨5, _⟩ => ⟨S896x4096, .bf16⟩
  | .local _ .vmem, ⟨6, _⟩ => ⟨S1792x128, .bf16⟩
  | .local _ .smem, ⟨0, _⟩ => ⟨S4096, .i32⟩
  | _, _ => ⟨S2x8x32x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 4], ![false, false]⟩

def k0_off1 (i : grid0.Coords) (c0_i32_1 : BitVec 32) (c0_i32_2 : BitVec 32) : Fin 1 → Nat :=
  let arg0 : BitVec 32 := BitVec.ofNat 32 (i 0).val
  let c64_i32 : BitVec 32 := 64#32
  let v3 : BitVec 32 := Scalar.muli arg0 c64_i32
  let arg1 : BitVec 32 := BitVec.ofNat 32 (i 1).val
  let c16_i32 : BitVec 32 := 16#32
  let v4 : BitVec 32 := Scalar.muli arg1 c16_i32
  let v5 : BitVec 32 := Scalar.addi v3 v4
  let v6 : BitVec 32 := Scalar.addi v5 c0_i32_1
  let c4_i32 : BitVec 32 := 4#32
  let v7 : BitVec 32 := Scalar.muli v6 c4_i32
  let v8 : BitVec 32 := Scalar.addi v7 c0_i32_2
  let v9 : Index := Scalar.indexCast v8
  ![v9.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.muli v26 c4_i32
  let v28 : BitVec 32 := Scalar.addi v27 arg1
  let c0_i32_10 : BitVec 32 := 0#32
  let c0_i32_11 : BitVec 32 := 0#32
  let c0_i32_12 : BitVec 32 := 0#32
  ![v16.toNat, v28.toNat, c0_i32_10.toNat, c0_i32_11.toNat]

abbrev stage0_0 : Fin 1 → Memref sig .tc .smem S4096 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x32x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x1792x56 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S2x8x32x128x128 : Shape := ⟨5, ![2, 8, 32, 128, 128]⟩
abbrev S2x8x64x4 : Shape := ⟨4, ![2, 8, 64, 4]⟩
abbrev S1x8x32x128x128 : Shape := ⟨5, ![1, 8, 32, 128, 128]⟩
abbrev S8x32x128x128 : Shape := ⟨4, ![8, 32, 128, 128]⟩
abbrev S1x8x64x4 : Shape := ⟨4, ![1, 8, 64, 4]⟩
abbrev S8x64x4 : Shape := ⟨3, ![8, 64, 4]⟩
abbrev S8x64x1 : Shape := ⟨3, ![8, 64, 1]⟩
abbrev S8x64 : Shape := ⟨2, ![8, 64]⟩
abbrev S_ : Shape := ⟨0, ![]⟩
abbrev S56 : Shape := ⟨1, ![56]⟩
abbrev S1x56 : Shape := ⟨2, ![1, 56]⟩
abbrev S1x1x56 : Shape := ⟨3, ![1, 1, 56]⟩
abbrev S8x64x56 : Shape := ⟨3, ![8, 64, 56]⟩
abbrev S8x64x56x1 : Shape := ⟨4, ![8, 64, 56, 1]⟩
abbrev S8x64x32x56x128 : Shape := ⟨5, ![8, 64, 32, 56, 128]⟩
abbrev S8x64x1x56x1 : Shape := ⟨5, ![8, 64, 1, 56, 1]⟩
abbrev S8x64x32x56x56 : Shape := ⟨5, ![8, 64, 32, 56, 56]⟩
abbrev S8x64x1x1x56 : Shape := ⟨5, ![8, 64, 1, 1, 56]⟩
abbrev S512x32x56x56 : Shape := ⟨4, ![512, 32, 56, 56]⟩
abbrev S1x512x32x56x56 : Shape := ⟨5, ![1, 512, 32, 56, 56]⟩
abbrev S2x512x32x56x56 : Shape := ⟨5, ![2, 512, 32, 56, 56]⟩

abbrev nBuf : Space → Nat
  | .hbm => 327
  | .vmem => 0
  | .smem => 0
  | _ => 0

abbrev hbmTy0_0 (i : Nat) : BufTy := match i % 128 with
  | 0 => ⟨S2x8x32x128x128, .f32⟩
  | 1 => ⟨S2x8x64x4, .i32⟩
  | 2 => ⟨S1x8x32x128x128, .f32⟩
  | 3 => ⟨S8x32x128x128, .f32⟩
  | 4 => ⟨S1x8x64x4, .i32⟩
  | 5 => ⟨S8x64x4, .i32⟩
  | 6 => ⟨S8x64x1, .i32⟩
  | 7 => ⟨S8x64, .i32⟩
  | 8 => ⟨S8x64x1, .i32⟩
  | 9 => ⟨S8x64, .i32⟩
  | 10 => ⟨S8x64x1, .i32⟩
  | 11 => ⟨S8x64, .i32⟩
  | 12 => ⟨S8x64x1, .i32⟩
  | 13 => ⟨S8x64, .i32⟩
  | 14 => ⟨S8x64, .i32⟩
  | 15 => ⟨S8x64, .f32⟩
  | 16 => ⟨S8x64, .i32⟩
  | 17 => ⟨S8x64, .f32⟩
  | 18 => ⟨S_, .f32⟩
  | 19 => ⟨S8x64, .f32⟩
  | 20 => ⟨S8x64, .f32⟩
  | 21 => ⟨S56, .f32⟩
  | 22 => ⟨S_, .f32⟩
  | 23 => ⟨S56, .f32⟩
  | 24 => ⟨S56, .f32⟩
  | 25 => ⟨S1x56, .f32⟩
  | 26 => ⟨S8x64x1, .f32⟩
  | 27 => ⟨S1x1x56, .f32⟩
  | 28 => ⟨S8x64x56, .f32⟩
  | 29 => ⟨S8x64x56, .f32⟩
  | 30 => ⟨S8x64x56, .f32⟩
  | 31 => ⟨S_, .f32⟩
  | 32 => ⟨S8x64x56, .f32⟩
  | 33 => ⟨S8x64x56, .f32⟩
  | 34 => ⟨S_, .f32⟩
  | 35 => ⟨S8x64x56, .f32⟩
  | 36 => ⟨S8x64x56, .f32⟩
  | 37 => ⟨S8x64, .i32⟩
  | 38 => ⟨S8x64x56, .f32⟩
  | 39 => ⟨S8x64x56, .i32⟩
  | 40 => ⟨S_, .i32⟩
  | 41 => ⟨S8x64, .i32⟩
  | 42 => ⟨S8x64, .i32⟩
  | 43 => ⟨S8x64x1, .i32⟩
  | 44 => ⟨S8x64x56, .i32⟩
  | 45 => ⟨S8x64x56, .i32⟩
  | 46 => ⟨S_, .i32⟩
  | 47 => ⟨S8x64x56, .i32⟩
  | 48 => ⟨S8x64x56, .i32⟩
  | 49 => ⟨S_, .i32⟩
  | 50 => ⟨S8x64, .i32⟩
  | 51 => ⟨S8x64, .i32⟩
  | 52 => ⟨S8x64x1, .i32⟩
  | 53 => ⟨S8x64x56, .i32⟩
  | 54 => ⟨S8x64x56, .i32⟩
  | 55 => ⟨S8x64x56, .f32⟩
  | 56 => ⟨S8x64x56, .f32⟩
  | 57 => ⟨S8x64x1, .i32⟩
  | 58 => ⟨S8x64x56, .i32⟩
  | 59 => ⟨S8x64x56, .i32⟩
  | 60 => ⟨S8x64x1, .i32⟩
  | 61 => ⟨S8x64x56, .i32⟩
  | 62 => ⟨S8x64x56, .i32⟩
  | 63 => ⟨S_, .f32⟩
  | 64 => ⟨S8x64, .f32⟩
  | 65 => ⟨S8x64, .f32⟩
  | 66 => ⟨S56, .f32⟩
  | 67 => ⟨S_, .f32⟩
  | 68 => ⟨S56, .f32⟩
  | 69 => ⟨S56, .f32⟩
  | 70 => ⟨S1x56, .f32⟩
  | 71 => ⟨S8x64x1, .f32⟩
  | 72 => ⟨S1x1x56, .f32⟩
  | 73 => ⟨S8x64x56, .f32⟩
  | 74 => ⟨S8x64x56, .f32⟩
  | 75 => ⟨S8x64x56, .f32⟩
  | 76 => ⟨S_, .f32⟩
  | 77 => ⟨S8x64x56, .f32⟩
  | 78 => ⟨S8x64x56, .f32⟩
  | 79 => ⟨S_, .f32⟩
  | 80 => ⟨S8x64x56, .f32⟩
  | 81 => ⟨S8x64x56, .f32⟩
  | 82 => ⟨S8x64, .i32⟩
  | 83 => ⟨S8x64x56, .f32⟩
  | 84 => ⟨S8x64x56, .i32⟩
  | 85 => ⟨S_, .i32⟩
  | 86 => ⟨S8x64, .i32⟩
  | 87 => ⟨S8x64, .i32⟩
  | 88 => ⟨S8x64x1, .i32⟩
  | 89 => ⟨S8x64x56, .i32⟩
  | 90 => ⟨S8x64x56, .i32⟩
  | 91 => ⟨S_, .i32⟩
  | 92 => ⟨S8x64x56, .i32⟩
  | 93 => ⟨S8x64x56, .i32⟩
  | 94 => ⟨S_, .i32⟩
  | 95 => ⟨S8x64, .i32⟩
  | 96 => ⟨S8x64, .i32⟩
  | 97 => ⟨S8x64x1, .i32⟩
  | 98 => ⟨S8x64x56, .i32⟩
  | 99 => ⟨S8x64x56, .i32⟩
  | 100 => ⟨S8x64x56, .f32⟩
  | 101 => ⟨S8x64x56, .f32⟩
  | 102 => ⟨S8x64x1, .i32⟩
  | 103 => ⟨S8x64x56, .i32⟩
  | 104 => ⟨S8x64x56, .i32⟩
  | 105 => ⟨S8x64x1, .i32⟩
  | 106 => ⟨S8x64x56, .i32⟩
  | 107 => ⟨S8x64x56, .i32⟩
  | 108 => ⟨S_, .i32⟩
  | 109 => ⟨S8x64x56, .i32⟩
  | 110 => ⟨S8x64x56, .i1⟩
  | 111 => ⟨S_, .i32⟩
  | 112 => ⟨S8x64x56, .i32⟩
  | 113 => ⟨S8x64x56, .i32⟩
  | 114 => ⟨S8x64x56, .i32⟩
  | 115 => ⟨S8x64x56x1, .i32⟩
  | 116 => ⟨S8x64x32x56x128, .f32⟩
  | 117 => ⟨S_, .i32⟩
  | 118 => ⟨S8x64x56, .i32⟩
  | 119 => ⟨S8x64x56, .i1⟩
  | 120 => ⟨S_, .i32⟩
  | 121 => ⟨S8x64x56, .i32⟩
  | 122 => ⟨S8x64x56, .i32⟩
  | 123 => ⟨S8x64x56, .i32⟩
  | 124 => ⟨S8x64x56x1, .i32⟩
  | 125 => ⟨S8x64x32x56x128, .f32⟩
  | 126 => ⟨S8x64x1x56x1, .f32⟩
  | 127 => ⟨S_, .f32⟩
  | _ => ⟨S2x8x32x128x128, .f32⟩

abbrev hbmTy0_1 (i : Nat) : BufTy := match i % 128 with
  | 0 => ⟨S8x64x1x56x1, .f32⟩
  | 1 => ⟨S8x64x1x56x1, .f32⟩
  | 2 => ⟨S8x64x32x56x128, .f32⟩
  | 3 => ⟨S8x64x32x56x128, .f32⟩
  | 4 => ⟨S8x64x32x56x128, .f32⟩
  | 5 => ⟨S8x64x32x56x128, .f32⟩
  | 6 => ⟨S8x64x32x56x128, .f32⟩
  | 7 => ⟨S_, .i32⟩
  | 8 => ⟨S8x64x56, .i32⟩
  | 9 => ⟨S8x64x56, .i1⟩
  | 10 => ⟨S_, .i32⟩
  | 11 => ⟨S8x64x56, .i32⟩
  | 12 => ⟨S8x64x56, .i32⟩
  | 13 => ⟨S8x64x56, .i32⟩
  | 14 => ⟨S8x64x56x1, .i32⟩
  | 15 => ⟨S8x64x32x56x56, .f32⟩
  | 16 => ⟨S_, .i32⟩
  | 17 => ⟨S8x64x56, .i32⟩
  | 18 => ⟨S8x64x56, .i1⟩
  | 19 => ⟨S_, .i32⟩
  | 20 => ⟨S8x64x56, .i32⟩
  | 21 => ⟨S8x64x56, .i32⟩
  | 22 => ⟨S8x64x56, .i32⟩
  | 23 => ⟨S8x64x56x1, .i32⟩
  | 24 => ⟨S8x64x32x56x56, .f32⟩
  | 25 => ⟨S8x64x1x1x56, .f32⟩
  | 26 => ⟨S_, .f32⟩
  | 27 => ⟨S8x64x1x1x56, .f32⟩
  | 28 => ⟨S8x64x1x1x56, .f32⟩
  | 29 => ⟨S8x64x32x56x56, .f32⟩
  | 30 => ⟨S8x64x32x56x56, .f32⟩
  | 31 => ⟨S8x64x32x56x56, .f32⟩
  | 32 => ⟨S8x64x32x56x56, .f32⟩
  | 33 => ⟨S8x64x32x56x56, .f32⟩
  | 34 => ⟨S512x32x56x56, .f32⟩
  | 35 => ⟨S1x8x32x128x128, .f32⟩
  | 36 => ⟨S8x32x128x128, .f32⟩
  | 37 => ⟨S1x8x64x4, .i32⟩
  | 38 => ⟨S8x64x4, .i32⟩
  | 39 => ⟨S8x64x1, .i32⟩
  | 40 => ⟨S8x64, .i32⟩
  | 41 => ⟨S8x64x1, .i32⟩
  | 42 => ⟨S8x64, .i32⟩
  | 43 => ⟨S8x64x1, .i32⟩
  | 44 => ⟨S8x64, .i32⟩
  | 45 => ⟨S8x64x1, .i32⟩
  | 46 => ⟨S8x64, .i32⟩
  | 47 => ⟨S8x64, .i32⟩
  | 48 => ⟨S8x64, .f32⟩
  | 49 => ⟨S8x64, .i32⟩
  | 50 => ⟨S8x64, .f32⟩
  | 51 => ⟨S_, .f32⟩
  | 52 => ⟨S8x64, .f32⟩
  | 53 => ⟨S8x64, .f32⟩
  | 54 => ⟨S56, .f32⟩
  | 55 => ⟨S_, .f32⟩
  | 56 => ⟨S56, .f32⟩
  | 57 => ⟨S56, .f32⟩
  | 58 => ⟨S1x56, .f32⟩
  | 59 => ⟨S8x64x1, .f32⟩
  | 60 => ⟨S1x1x56, .f32⟩
  | 61 => ⟨S8x64x56, .f32⟩
  | 62 => ⟨S8x64x56, .f32⟩
  | 63 => ⟨S8x64x56, .f32⟩
  | 64 => ⟨S_, .f32⟩
  | 65 => ⟨S8x64x56, .f32⟩
  | 66 => ⟨S8x64x56, .f32⟩
  | 67 => ⟨S_, .f32⟩
  | 68 => ⟨S8x64x56, .f32⟩
  | 69 => ⟨S8x64x56, .f32⟩
  | 70 => ⟨S8x64, .i32⟩
  | 71 => ⟨S8x64x56, .f32⟩
  | 72 => ⟨S8x64x56, .i32⟩
  | 73 => ⟨S_, .i32⟩
  | 74 => ⟨S8x64, .i32⟩
  | 75 => ⟨S8x64, .i32⟩
  | 76 => ⟨S8x64x1, .i32⟩
  | 77 => ⟨S8x64x56, .i32⟩
  | 78 => ⟨S8x64x56, .i32⟩
  | 79 => ⟨S_, .i32⟩
  | 80 => ⟨S8x64x56, .i32⟩
  | 81 => ⟨S8x64x56, .i32⟩
  | 82 => ⟨S_, .i32⟩
  | 83 => ⟨S8x64, .i32⟩
  | 84 => ⟨S8x64, .i32⟩
  | 85 => ⟨S8x64x1, .i32⟩
  | 86 => ⟨S8x64x56, .i32⟩
  | 87 => ⟨S8x64x56, .i32⟩
  | 88 => ⟨S8x64x56, .f32⟩
  | 89 => ⟨S8x64x56, .f32⟩
  | 90 => ⟨S8x64x1, .i32⟩
  | 91 => ⟨S8x64x56, .i32⟩
  | 92 => ⟨S8x64x56, .i32⟩
  | 93 => ⟨S8x64x1, .i32⟩
  | 94 => ⟨S8x64x56, .i32⟩
  | 95 => ⟨S8x64x56, .i32⟩
  | 96 => ⟨S_, .f32⟩
  | 97 => ⟨S8x64, .f32⟩
  | 98 => ⟨S8x64, .f32⟩
  | 99 => ⟨S56, .f32⟩
  | 100 => ⟨S_, .f32⟩
  | 101 => ⟨S56, .f32⟩
  | 102 => ⟨S56, .f32⟩
  | 103 => ⟨S1x56, .f32⟩
  | 104 => ⟨S8x64x1, .f32⟩
  | 105 => ⟨S1x1x56, .f32⟩
  | 106 => ⟨S8x64x56, .f32⟩
  | 107 => ⟨S8x64x56, .f32⟩
  | 108 => ⟨S8x64x56, .f32⟩
  | 109 => ⟨S_, .f32⟩
  | 110 => ⟨S8x64x56, .f32⟩
  | 111 => ⟨S8x64x56, .f32⟩
  | 112 => ⟨S_, .f32⟩
  | 113 => ⟨S8x64x56, .f32⟩
  | 114 => ⟨S8x64x56, .f32⟩
  | 115 => ⟨S8x64, .i32⟩
  | 116 => ⟨S8x64x56, .f32⟩
  | 117 => ⟨S8x64x56, .i32⟩
  | 118 => ⟨S_, .i32⟩
  | 119 => ⟨S8x64, .i32⟩
  | 120 => ⟨S8x64, .i32⟩
  | 121 => ⟨S8x64x1, .i32⟩
  | 122 => ⟨S8x64x56, .i32⟩
  | 123 => ⟨S8x64x56, .i32⟩
  | 124 => ⟨S_, .i32⟩
  | 125 => ⟨S8x64x56, .i32⟩
  | 126 => ⟨S8x64x56, .i32⟩
  | 127 => ⟨S_, .i32⟩
  | _ => ⟨S2x8x32x128x128, .f32⟩

abbrev hbmTy0_2 (i : Nat) : BufTy := match i % 128 with
  | 0 => ⟨S8x64, .i32⟩
  | 1 => ⟨S8x64, .i32⟩
  | 2 => ⟨S8x64x1, .i32⟩
  | 3 => ⟨S8x64x56, .i32⟩
  | 4 => ⟨S8x64x56, .i32⟩
  | 5 => ⟨S8x64x56, .f32⟩
  | 6 => ⟨S8x64x56, .f32⟩
  | 7 => ⟨S8x64x1, .i32⟩
  | 8 => ⟨S8x64x56, .i32⟩
  | 9 => ⟨S8x64x56, .i32⟩
  | 10 => ⟨S8x64x1, .i32⟩
  | 11 => ⟨S8x64x56, .i32⟩
  | 12 => ⟨S8x64x56, .i32⟩
  | 13 => ⟨S_, .i32⟩
  | 14 => ⟨S8x64x56, .i32⟩
  | 15 => ⟨S8x64x56, .i1⟩
  | 16 => ⟨S_, .i32⟩
  | 17 => ⟨S8x64x56, .i32⟩
  | 18 => ⟨S8x64x56, .i32⟩
  | 19 => ⟨S8x64x56, .i32⟩
  | 20 => ⟨S8x64x56x1, .i32⟩
  | 21 => ⟨S8x64x32x56x128, .f32⟩
  | 22 => ⟨S_, .i32⟩
  | 23 => ⟨S8x64x56, .i32⟩
  | 24 => ⟨S8x64x56, .i1⟩
  | 25 => ⟨S_, .i32⟩
  | 26 => ⟨S8x64x56, .i32⟩
  | 27 => ⟨S8x64x56, .i32⟩
  | 28 => ⟨S8x64x56, .i32⟩
  | 29 => ⟨S8x64x56x1, .i32⟩
  | 30 => ⟨S8x64x32x56x128, .f32⟩
  | 31 => ⟨S8x64x1x56x1, .f32⟩
  | 32 => ⟨S_, .f32⟩
  | 33 => ⟨S8x64x1x56x1, .f32⟩
  | 34 => ⟨S8x64x1x56x1, .f32⟩
  | 35 => ⟨S8x64x32x56x128, .f32⟩
  | 36 => ⟨S8x64x32x56x128, .f32⟩
  | 37 => ⟨S8x64x32x56x128, .f32⟩
  | 38 => ⟨S8x64x32x56x128, .f32⟩
  | 39 => ⟨S8x64x32x56x128, .f32⟩
  | 40 => ⟨S_, .i32⟩
  | 41 => ⟨S8x64x56, .i32⟩
  | 42 => ⟨S8x64x56, .i1⟩
  | 43 => ⟨S_, .i32⟩
  | 44 => ⟨S8x64x56, .i32⟩
  | 45 => ⟨S8x64x56, .i32⟩
  | 46 => ⟨S8x64x56, .i32⟩
  | 47 => ⟨S8x64x56x1, .i32⟩
  | 48 => ⟨S8x64x32x56x56, .f32⟩
  | 49 => ⟨S_, .i32⟩
  | 50 => ⟨S8x64x56, .i32⟩
  | 51 => ⟨S8x64x56, .i1⟩
  | 52 => ⟨S_, .i32⟩
  | 53 => ⟨S8x64x56, .i32⟩
  | 54 => ⟨S8x64x56, .i32⟩
  | 55 => ⟨S8x64x56, .i32⟩
  | 56 => ⟨S8x64x56x1, .i32⟩
  | 57 => ⟨S8x64x32x56x56, .f32⟩
  | 58 => ⟨S8x64x1x1x56, .f32⟩
  | 59 => ⟨S_, .f32⟩
  | 60 => ⟨S8x64x1x1x56, .f32⟩
  | 61 => ⟨S8x64x1x1x56, .f32⟩
  | 62 => ⟨S8x64x32x56x56, .f32⟩
  | 63 => ⟨S8x64x32x56x56, .f32⟩
  | 64 => ⟨S8x64x32x56x56, .f32⟩
  | 65 => ⟨S8x64x32x56x56, .f32⟩
  | 66 => ⟨S8x64x32x56x56, .f32⟩
  | 67 => ⟨S512x32x56x56, .f32⟩
  | 68 => ⟨S1x512x32x56x56, .f32⟩
  | 69 => ⟨S1x512x32x56x56, .f32⟩
  | 70 => ⟨S2x512x32x56x56, .f32⟩
  | _ => ⟨S2x8x32x128x128, .f32⟩

abbrev hbmTy (i : Nat) : BufTy := match i / 128 with
  | 0 => hbmTy0_0 i
  | 1 => hbmTy0_1 i
  | 2 => hbmTy0_2 i
  | _ => ⟨S2x8x32x128x128, .f32⟩

abbrev bufTy : (tb : Table) → Fin (tcTables nBuf tb) → BufTy
  | .hbm, ⟨i, _⟩ => hbmTy i
  | _, _ => ⟨S2x8x32x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst_0 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_1 : Ref sig .tc := ⟨.hbm, 31, rfl⟩
abbrev main_v27 : Ref sig .tc := ⟨.hbm, 32, rfl⟩
abbrev main_v28 : Ref sig .tc := ⟨.hbm, 33, rfl⟩
abbrev main_cst_2 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_c : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_c_3 : Ref sig .tc := ⟨.hbm, 46, rfl⟩
abbrev main_v39 : Ref sig .tc := ⟨.hbm, 47, rfl⟩
abbrev main_v40 : Ref sig .tc := ⟨.hbm, 48, rfl⟩
abbrev main_c_4 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_cst_5 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_cst_6 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_cst_7 : Ref sig .tc := ⟨.hbm, 76, rfl⟩
abbrev main_v65 : Ref sig .tc := ⟨.hbm, 77, rfl⟩
abbrev main_v66 : Ref sig .tc := ⟨.hbm, 78, rfl⟩
abbrev main_cst_8 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_c_9 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_c_10 : Ref sig .tc := ⟨.hbm, 91, rfl⟩
abbrev main_v77 : Ref sig .tc := ⟨.hbm, 92, rfl⟩
abbrev main_v78 : Ref sig .tc := ⟨.hbm, 93, rfl⟩
abbrev main_c_11 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_c_12 : Ref sig .tc := ⟨.hbm, 108, rfl⟩
abbrev main_v92 : Ref sig .tc := ⟨.hbm, 109, rfl⟩
abbrev main_v93 : Ref sig .tc := ⟨.hbm, 110, rfl⟩
abbrev main_c_13 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_c_14 : Ref sig .tc := ⟨.hbm, 117, rfl⟩
abbrev main_v99 : Ref sig .tc := ⟨.hbm, 118, rfl⟩
abbrev main_v100 : Ref sig .tc := ⟨.hbm, 119, rfl⟩
abbrev main_c_15 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_cst_16 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_c_17 : Ref sig .tc := ⟨.hbm, 135, rfl⟩
abbrev main_v114 : Ref sig .tc := ⟨.hbm, 136, rfl⟩
abbrev main_v115 : Ref sig .tc := ⟨.hbm, 137, rfl⟩
abbrev main_c_18 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_c_19 : Ref sig .tc := ⟨.hbm, 144, rfl⟩
abbrev main_v121 : Ref sig .tc := ⟨.hbm, 145, rfl⟩
abbrev main_v122 : Ref sig .tc := ⟨.hbm, 146, rfl⟩
abbrev main_c_20 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_cst_21 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_cst_22 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_cst_23 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_cst_24 : Ref sig .tc := ⟨.hbm, 192, rfl⟩
abbrev main_v164 : Ref sig .tc := ⟨.hbm, 193, rfl⟩
abbrev main_v165 : Ref sig .tc := ⟨.hbm, 194, rfl⟩
abbrev main_cst_25 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_c_26 : Ref sig .tc := ⟨.hbm, 201, rfl⟩
abbrev main_v171 : Ref sig .tc := ⟨.hbm, 202, rfl⟩
abbrev main_v172 : Ref sig .tc := ⟨.hbm, 203, rfl⟩
abbrev main_v173 : Ref sig .tc := ⟨.hbm, 204, rfl⟩
abbrev main_v174 : Ref sig .tc := ⟨.hbm, 205, rfl⟩
abbrev main_v175 : Ref sig .tc := ⟨.hbm, 206, rfl⟩
abbrev main_c_27 : Ref sig .tc := ⟨.hbm, 207, rfl⟩
abbrev main_v176 : Ref sig .tc := ⟨.hbm, 208, rfl⟩
abbrev main_v177 : Ref sig .tc := ⟨.hbm, 209, rfl⟩
abbrev main_c_28 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_v188 : Ref sig .tc := ⟨.hbm, 221, rfl⟩
abbrev main_v189 : Ref sig .tc := ⟨.hbm, 222, rfl⟩
abbrev main_v190 : Ref sig .tc := ⟨.hbm, 223, rfl⟩
abbrev main_cst_29 : Ref sig .tc := ⟨.hbm, 224, rfl⟩
abbrev main_v191 : Ref sig .tc := ⟨.hbm, 225, rfl⟩
abbrev main_v192 : Ref sig .tc := ⟨.hbm, 226, rfl⟩
abbrev main_v193 : Ref sig .tc := ⟨.hbm, 227, rfl⟩
abbrev main_cst_30 : Ref sig .tc := ⟨.hbm, 228, rfl⟩
abbrev main_v194 : Ref sig .tc := ⟨.hbm, 229, rfl⟩
abbrev main_v195 : Ref sig .tc := ⟨.hbm, 230, rfl⟩
abbrev main_v196 : Ref sig .tc := ⟨.hbm, 231, rfl⟩
abbrev main_v197 : Ref sig .tc := ⟨.hbm, 232, rfl⟩
abbrev main_v198 : Ref sig .tc := ⟨.hbm, 233, rfl⟩
abbrev main_v199 : Ref sig .tc := ⟨.hbm, 234, rfl⟩
abbrev main_v200 : Ref sig .tc := ⟨.hbm, 235, rfl⟩
abbrev main_v201 : Ref sig .tc := ⟨.hbm, 236, rfl⟩
abbrev main_cst_31 : Ref sig .tc := ⟨.hbm, 237, rfl⟩
abbrev main_v202 : Ref sig .tc := ⟨.hbm, 238, rfl⟩
abbrev main_v203 : Ref sig .tc := ⟨.hbm, 239, rfl⟩
abbrev main_cst_32 : Ref sig .tc := ⟨.hbm, 240, rfl⟩
abbrev main_v204 : Ref sig .tc := ⟨.hbm, 241, rfl⟩
abbrev main_v205 : Ref sig .tc := ⟨.hbm, 242, rfl⟩
abbrev main_v206 : Ref sig .tc := ⟨.hbm, 243, rfl⟩
abbrev main_v207 : Ref sig .tc := ⟨.hbm, 244, rfl⟩
abbrev main_v208 : Ref sig .tc := ⟨.hbm, 245, rfl⟩
abbrev main_c_33 : Ref sig .tc := ⟨.hbm, 246, rfl⟩
abbrev main_v209 : Ref sig .tc := ⟨.hbm, 247, rfl⟩
abbrev main_v210 : Ref sig .tc := ⟨.hbm, 248, rfl⟩
abbrev main_v211 : Ref sig .tc := ⟨.hbm, 249, rfl⟩
abbrev main_v212 : Ref sig .tc := ⟨.hbm, 250, rfl⟩
abbrev main_v213 : Ref sig .tc := ⟨.hbm, 251, rfl⟩
abbrev main_c_34 : Ref sig .tc := ⟨.hbm, 252, rfl⟩
abbrev main_v214 : Ref sig .tc := ⟨.hbm, 253, rfl⟩
abbrev main_v215 : Ref sig .tc := ⟨.hbm, 254, rfl⟩
abbrev main_c_35 : Ref sig .tc := ⟨.hbm, 255, rfl⟩
abbrev main_v216 : Ref sig .tc := ⟨.hbm, 256, rfl⟩
abbrev main_v217 : Ref sig .tc := ⟨.hbm, 257, rfl⟩
abbrev main_v218 : Ref sig .tc := ⟨.hbm, 258, rfl⟩
abbrev main_v219 : Ref sig .tc := ⟨.hbm, 259, rfl⟩
abbrev main_v220 : Ref sig .tc := ⟨.hbm, 260, rfl⟩
abbrev main_v221 : Ref sig .tc := ⟨.hbm, 261, rfl⟩
abbrev main_v222 : Ref sig .tc := ⟨.hbm, 262, rfl⟩
abbrev main_v223 : Ref sig .tc := ⟨.hbm, 263, rfl⟩
abbrev main_v224 : Ref sig .tc := ⟨.hbm, 264, rfl⟩
abbrev main_v225 : Ref sig .tc := ⟨.hbm, 265, rfl⟩
abbrev main_v226 : Ref sig .tc := ⟨.hbm, 266, rfl⟩
abbrev main_v227 : Ref sig .tc := ⟨.hbm, 267, rfl⟩
abbrev main_v228 : Ref sig .tc := ⟨.hbm, 268, rfl⟩
abbrev main_c_36 : Ref sig .tc := ⟨.hbm, 269, rfl⟩
abbrev main_v229 : Ref sig .tc := ⟨.hbm, 270, rfl⟩
abbrev main_v230 : Ref sig .tc := ⟨.hbm, 271, rfl⟩
abbrev main_c_37 : Ref sig .tc := ⟨.hbm, 272, rfl⟩
abbrev main_v231 : Ref sig .tc := ⟨.hbm, 273, rfl⟩
abbrev main_v232 : Ref sig .tc := ⟨.hbm, 274, rfl⟩
abbrev main_v233 : Ref sig .tc := ⟨.hbm, 275, rfl⟩
abbrev main_v234 : Ref sig .tc := ⟨.hbm, 276, rfl⟩
abbrev main_v235 : Ref sig .tc := ⟨.hbm, 277, rfl⟩
abbrev main_c_38 : Ref sig .tc := ⟨.hbm, 278, rfl⟩
abbrev main_v236 : Ref sig .tc := ⟨.hbm, 279, rfl⟩
abbrev main_v237 : Ref sig .tc := ⟨.hbm, 280, rfl⟩
abbrev main_c_39 : Ref sig .tc := ⟨.hbm, 281, rfl⟩
abbrev main_v238 : Ref sig .tc := ⟨.hbm, 282, rfl⟩
abbrev main_v239 : Ref sig .tc := ⟨.hbm, 283, rfl⟩
abbrev main_v240 : Ref sig .tc := ⟨.hbm, 284, rfl⟩
abbrev main_v241 : Ref sig .tc := ⟨.hbm, 285, rfl⟩
abbrev main_v242 : Ref sig .tc := ⟨.hbm, 286, rfl⟩
abbrev main_v243 : Ref sig .tc := ⟨.hbm, 287, rfl⟩
abbrev main_cst_40 : Ref sig .tc := ⟨.hbm, 288, rfl⟩
abbrev main_v244 : Ref sig .tc := ⟨.hbm, 289, rfl⟩
abbrev main_v245 : Ref sig .tc := ⟨.hbm, 290, rfl⟩
abbrev main_v246 : Ref sig .tc := ⟨.hbm, 291, rfl⟩
abbrev main_v247 : Ref sig .tc := ⟨.hbm, 292, rfl⟩
abbrev main_v248 : Ref sig .tc := ⟨.hbm, 293, rfl⟩
abbrev main_v249 : Ref sig .tc := ⟨.hbm, 294, rfl⟩
abbrev main_v250 : Ref sig .tc := ⟨.hbm, 295, rfl⟩
abbrev main_c_41 : Ref sig .tc := ⟨.hbm, 296, rfl⟩
abbrev main_v251 : Ref sig .tc := ⟨.hbm, 297, rfl⟩
abbrev main_v252 : Ref sig .tc := ⟨.hbm, 298, rfl⟩
abbrev main_c_42 : Ref sig .tc := ⟨.hbm, 299, rfl⟩
abbrev main_v253 : Ref sig .tc := ⟨.hbm, 300, rfl⟩
abbrev main_v254 : Ref sig .tc := ⟨.hbm, 301, rfl⟩
abbrev main_v255 : Ref sig .tc := ⟨.hbm, 302, rfl⟩
abbrev main_v256 : Ref sig .tc := ⟨.hbm, 303, rfl⟩
abbrev main_v257 : Ref sig .tc := ⟨.hbm, 304, rfl⟩
abbrev main_c_43 : Ref sig .tc := ⟨.hbm, 305, rfl⟩
abbrev main_v258 : Ref sig .tc := ⟨.hbm, 306, rfl⟩
abbrev main_v259 : Ref sig .tc := ⟨.hbm, 307, rfl⟩
abbrev main_c_44 : Ref sig .tc := ⟨.hbm, 308, rfl⟩
abbrev main_v260 : Ref sig .tc := ⟨.hbm, 309, rfl⟩
abbrev main_v261 : Ref sig .tc := ⟨.hbm, 310, rfl⟩
abbrev main_v262 : Ref sig .tc := ⟨.hbm, 311, rfl⟩
abbrev main_v263 : Ref sig .tc := ⟨.hbm, 312, rfl⟩
abbrev main_v264 : Ref sig .tc := ⟨.hbm, 313, rfl⟩
abbrev main_v265 : Ref sig .tc := ⟨.hbm, 314, rfl⟩
abbrev main_cst_45 : Ref sig .tc := ⟨.hbm, 315, rfl⟩
abbrev main_v266 : Ref sig .tc := ⟨.hbm, 316, rfl⟩
abbrev main_v267 : Ref sig .tc := ⟨.hbm, 317, rfl⟩
abbrev main_v268 : Ref sig .tc := ⟨.hbm, 318, rfl⟩
abbrev main_v269 : Ref sig .tc := ⟨.hbm, 319, rfl⟩
abbrev main_v270 : Ref sig .tc := ⟨.hbm, 320, rfl⟩
abbrev main_v271 : Ref sig .tc := ⟨.hbm, 321, rfl⟩
abbrev main_v272 : Ref sig .tc := ⟨.hbm, 322, rfl⟩
abbrev main_v273 : Ref sig .tc := ⟨.hbm, 323, rfl⟩
abbrev main_v274 : Ref sig .tc := ⟨.hbm, 324, rfl⟩
abbrev main_v275 : Ref sig .tc := ⟨.hbm, 325, rfl⟩
abbrev main_v276 : Ref sig .tc := ⟨.hbm, 326, rfl⟩

abbrev nD : Nat := 1
abbrev τ : Topo := Topo.v7x

variable {F : FTy → Type} [FloatOps F]
-- ==== Proof.Body.lean ====
/- What one point of the grid computes, written once for every box of the block: the weights of a box, the feature
   map's rows blended for all the boxes, the pieces each box's crop is gathered from, and the block stored. -/
module

public import proofs.«01_k».proof.Proof.Gen.KernelIdeal.Frame
public import Idealize.ShloMosaic.Lib.Pipeline.ValueKit

@[expose] public section

set_option maxRecDepth 16384

noncomputable section

namespace Cert.KernelIdeal.Value

open Cert.KernelIdeal Cert.KernelIdeal.Gen Idealize.ShloMosaic Idealize.ShloMosaic.TcCoe Idealize.SL.Sem

variable {F : FTy → Type} [FloatOps F]

/-- The row weights of a box between rows `y1` and `y2`. -/
def WY (y1 y2 : BitVec 32) : FVec F S56x128 .f32 :=
  k0_pay45 y1 (Scalar.subi y2 y1) (iota .tc S56x128 32 [1] iota_S56x128_d1_w32) (k0_pay42 y1 y2) (k0_pay43 (F := F) y1 y2) k0_pay44

/-- The column weights of a box between columns `x1` and `x2`. -/
def WX (x1 x2 : BitVec 32) : FVec F S128x56 .f32 := k0_pay146 x1 (Scalar.subi x2 x1)

/-- Word `k` of box `b` of the block at the grid's coordinates `i`, as the body loads it. -/
def word (i : grid0.Coords) (arg2 : Memref sig .tc .smem S4096 .i32) (harg2 : arg2.IsWhole) (x0 : Vec F S4096 .i32)
    (b : Fin 16) (k : Fin 4) : BitVec 32 :=
  (arg2.view.readAt (Elt F) (Rect.unit (s := S4096) (k0_off1 i (BitVec.ofNat 32 b.val) (BitVec.ofNat 32 k.val)) S1.size (k0_off1_inb i b k)).toLoadRect (harg2.unread x0))
    (Shape.Idx.first (numel1_S1.symm ▸ Nat.one_pos))

/-- The row weights of the block's sixteen boxes, one under another. -/
def WYs (w : Fin 16 → Fin 4 → BitVec 32) : FVec F S896x128 .bf16 :=
  truncf .bf16 (concatenate S896x128 0 (List.ofFn fun b : Fin 16 => (⟨S56x128, WY (w b 1) (w b 3)⟩ : (s : Shape) × FVec F s .f32))
    concatenates_S56x128_S56x128_S56x128_S56x128_S56x128_S56x128_S56x128_S56x128_S56x128_S56x128_S56x128_S56x128_S56x128_S56x128_S56x128_S56x128_S896x128_d0) bitsLt_bf16_f32

/-- The feature map's rows blended for all the boxes, as the one piece stored. -/
def rowsPiece (w : Fin 16 → Fin 4 → BitVec 32) (ft : Vec F S128x4096 .bf16) : List (View.Piece (Elt F) S896x4096 .bf16) :=
  [⟨Rect.unit (s := S896x4096) ![0, 0] S896x4096.size inb_S896x4096_S896x4096_0_0, k0_pay148 (WYs w) ft⟩]

theorem inb_rows (b : Fin 16) (c : Fin 32) : ∀ a, (![56 * b.val, 128 * c.val] : Fin 2 → ℕ) a + S56x128.size a ≤ S896x4096.size a := by
  revert b c; decide +kernel

theorem inb_crop (c : Fin 32) : ∀ a, (![56 * c.val, 0] : Fin 2 → ℕ) a + S56x128.size a ≤ S1792x128.size a := by
  revert c; decide +kernel

theorem inb_out (b : Fin 16) : ∀ a, (![0, b.val, 0, 0] : Fin 4 → ℕ) a + S1x1x1792x56.size a ≤ S1x16x1792x56.size a := by
  revert b; decide +kernel

/-- Channel `c` of box `b`, gathered from the blended rows. -/
def chan (arg6 : Memref sig .tc .vmem S896x4096 .bf16) (T : List (View.Piece (Elt F) S896x4096 .bf16)) (b : Fin 16) (c : Fin 32) : FVec F S56x128 .bf16 :=
  shapeCast S56x128 (arg6.view.readCov T (Rect.unit (s := S896x4096) ![56 * b.val, 128 * c.val] S56x128.size (inb_rows b c)).toLoadRect) shapeCasts_S56x128_S56x128

/-- The thirty-two pieces of box `b`, the last channel first. -/
def boxPieces (arg6 : Memref sig .tc .vmem S896x4096 .bf16) (T : List (View.Piece (Elt F) S896x4096 .bf16)) (b : Fin 16) :
    List (View.Piece (Elt F) S1792x128 .bf16) :=
  List.ofFn fun k : Fin 32 => ⟨Rect.unit (s := S1792x128) ![56 * (k.rev).val, 0] S56x128.size (inb_crop k.rev), chan arg6 T b k.rev⟩

/-- The pieces of the first `n` boxes, the last box first. -/
def crops (arg6 : Memref sig .tc .vmem S896x4096 .bf16) (T : List (View.Piece (Elt F) S896x4096 .bf16)) :
    (n : ℕ) → n ≤ 16 → List (View.Piece (Elt F) S1792x128 .bf16)
  | 0, _ => []
  | n + 1, h => boxPieces arg6 T ⟨n, h⟩ ++ crops arg6 T n (Nat.le_of_succ_le h)

/-- The block of box `b`: its gathered crop multiplied by its column weights. -/
def outPay (w : Fin 16 → Fin 4 → BitVec 32) (arg6 : Memref sig .tc .vmem S896x4096 .bf16) (arg7 : Memref sig .tc .vmem S1792x128 .bf16)
    (T : List (View.Piece (Elt F) S896x4096 .bf16)) (b : Fin 16) : FVec F S1x1x1792x56 .f32 :=
  k0_pay4 (WX (w b 0) (w b 2)) (arg7.view.readCov (crops arg6 T (b.val + 1) b.isLt)
    (Rect.unit (s := S1792x128) ![0, 0] S1792x128.size inb_S1792x128_S1792x128_0_0).toLoadRect)

/-- The sixteen pieces stored into the block, the last box first. -/
def outPieces (w : Fin 16 → Fin 4 → BitVec 32) (arg6 : Memref sig .tc .vmem S896x4096 .bf16) (arg7 : Memref sig .tc .vmem S1792x128 .bf16)
    (ft : Vec F S128x4096 .bf16) : List (View.Piece (Elt F) S1x16x1792x56 .f32) :=
  List.ofFn fun k : Fin 16 => ⟨Rect.unit (s := S1x16x1792x56) ![0, (k.rev).val, 0, 0] S1x1x1792x56.size (inb_out k.rev),
    outPay w arg6 arg7 (rowsPiece w ft) k.rev⟩

theorem inb_map (c : Fin 32) : ∀ a, (![0, 128 * c.val] : Fin 2 → ℕ) a + S128x128.size a ≤ S128x4096.size a := by
  revert c; decide +kernel

theorem inb_img (c : Fin 32) : ∀ a, (![0, c.val, 0, 0] : Fin 4 → ℕ) a + S1x1x128x128.size a ≤ S1x32x128x128.size a := by
  revert c; decide +kernel

/-- The feature map's thirty-two pieces, the last channel first. -/
def mapPieces (arg3 : Memref sig .tc .vmem S1x32x128x128 .f32) (harg3 : arg3.IsWhole) (x1 : Vec F S1x32x128x128 .f32) :
    List (View.Piece (Elt F) S128x4096 .bf16) :=
  List.ofFn fun k : Fin 32 => ⟨Rect.unit (s := S128x4096) ![0, 128 * (k.rev).val] S128x128.size (inb_map k.rev),
    k0_pay5 (arg3.view.readAt (Elt F) (Rect.unit (s := S1x32x128x128) ![0, (k.rev).val, 0, 0] S1x1x128x128.size (inb_img k.rev)).toLoadRect (harg3.unread x1))⟩

section Runs
variable (c : Dev nD) (i : grid0.Coords) (arg2 : Memref sig .tc .smem S4096 .i32) (harg2 : arg2.IsWhole) (arg3 : Memref sig .tc .vmem S1x32x128x128 .f32) (harg3 : arg3.IsWhole)
  (arg4 : Memref sig .tc .vmem S1x16x1792x56 .f32) (harg4 : arg4.IsWhole) (arg5 : Memref sig .tc .vmem S128x4096 .bf16) (harg5 : arg5.IsWhole) (arg6 : Memref sig .tc .vmem S896x4096 .bf16) (harg6 : arg6.IsWhole)
  (arg7 : Memref sig .tc .vmem S1792x128 .bf16) (harg7 : arg7.IsWhole) (x0 : Vec F S4096 .i32) (x1 : Vec F S1x32x128x128 .f32) (xs0 : Vec F S128x4096 .bf16)

/-- In the later block columns of an image the block's pieces are `outPieces` over the carried feature map. -/
theorem pieces_B (hc0 : ¬cond0_0 i) :
    (kernelRun0_B c i arg2 harg2 arg3 harg3 arg4 harg4 arg5 harg5 arg6 harg6 arg7 harg7 hc0 x0 x1 xs0).1
      = outPieces (word i arg2 harg2 x0) arg6 arg7
        (arg5.view.readAt (Elt F) (Rect.unit (s := S128x4096) ![0, 0] S128x4096.size inb_S128x4096_S128x4096_0_0).toLoadRect (harg5.unread xs0)) := rfl

/-- In an image's first block column the feature map's pieces are `mapPieces`, -/
theorem spieces_A (hc0 : cond0_0 i) :
    (kernelRun0_A c i arg2 harg2 arg3 harg3 arg4 harg4 arg5 harg5 arg6 harg6 arg7 harg7 hc0 x0 x1).2.1 = mapPieces arg3 harg3 x1 := rfl

/-- and the block's pieces are `outPieces` over them. -/
theorem pieces_A (hc0 : cond0_0 i) :
    (kernelRun0_A c i arg2 harg2 arg3 harg3 arg4 harg4 arg5 harg5 arg6 harg6 arg7 harg7 hc0 x0 x1).1
      = outPieces (word i arg2 harg2 x0) arg6 arg7
        (arg5.view.readCov (mapPieces arg3 harg3 x1) (Rect.unit (s := S128x4096) ![0, 0] S128x4096.size inb_S128x4096_S128x4096_0_0).toLoadRect) := rfl

/-- So the first point of an image leaves the image in the scratch carried between points, -/
theorem sout_A (hc0 : cond0_0 i) :
    sout0_A_0 c i arg2 harg2 arg3 harg3 arg4 harg4 arg5 harg5 arg6 harg6 arg7 harg7 hc0 x0 x1 = View.canon (mapPieces arg3 harg3 x1) :=
  (View.read_writes_junk_eq_canon VS0_0 _).trans (congrArg View.canon (spieces_A c i arg2 harg2 arg3 harg3 arg4 harg4 arg5 harg5 arg6 harg6 arg7 harg7 x0 x1 hc0))

/-- the pieces' values in the block, -/
theorem out_A (hc0 : cond0_0 i) :
    out0_A_2 c i arg2 harg2 arg3 harg3 arg4 harg4 arg5 harg5 arg6 harg6 arg7 harg7 hc0 x0 x1 = View.canon (outPieces (word i arg2 harg2 x0) arg6 arg7
      (arg5.view.readCov (mapPieces arg3 harg3 x1) (Rect.unit (s := S128x4096) ![0, 0] S128x4096.size inb_S128x4096_S128x4096_0_0).toLoadRect)) :=
  (View.read_writes_junk_eq_canon VO0_2 _).trans (congrArg View.canon (pieces_A c i arg2 harg2 arg3 harg3 arg4 harg4 arg5 harg5 arg6 harg6 arg7 harg7 x0 x1 hc0))

/-- and a later point the pieces' values over what is carried. -/
theorem out_B (hc0 : ¬cond0_0 i) :
    out0_B_2 c i arg2 harg2 arg3 harg3 arg4 harg4 arg5 harg5 arg6 harg6 arg7 harg7 hc0 x0 x1 xs0 = View.canon (outPieces (word i arg2 harg2 x0) arg6 arg7
      (arg5.view.readAt (Elt F) (Rect.unit (s := S128x4096) ![0, 0] S128x4096.size inb_S128x4096_S128x4096_0_0).toLoadRect (harg5.unread xs0))) :=
  (View.read_writes_junk_eq_canon VO0_2 _).trans (congrArg View.canon (pieces_B c i arg2 harg2 arg3 harg3 arg4 harg4 arg5 harg5 arg6 harg6 arg7 harg7 x0 x1 xs0 hc0))

end Runs

end Cert.KernelIdeal.Value

end
-- ==== Proof.Point.lean ====
/- The block stored at one point of the grid, read at an index: a sum over the columns of sums over the rows of the
   feature map, each entry multiplied by the box's weights. -/
module

public import proofs.«01_k».proof.Proof.Body

@[expose] public section

set_option maxRecDepth 16384

noncomputable section

namespace Cert.KernelIdeal.Value

open Cert.KernelIdeal Cert.KernelIdeal.Gen Idealize.ShloMosaic Idealize.ShloMosaic.TcCoe Idealize.SL.Sem

/-- Row `r` of piece `c`, the pieces being of 56 rows. -/
def row56 {N : ℕ} (n : ℕ) (c : Fin N) (r : Fin 56) (h : 56 * N = n := by rfl) : Fin n := ⟨56 * c.val + r.val, by omega⟩

/-- Lane `x` of channel `c`. -/
def lane (c : Fin 32) (x : Fin 128) : Fin 4096 := ⟨128 * c.val + x.val, by omega⟩

theorem pay4_apply (X : FVec Ideal S128x56 .f32) (L : Vec Ideal S1792x128 .bf16) (p : Fin 1792) (q : Fin 56) :
    k0_pay4 X L (ix4 0 0 p q) = ∑ x : Fin 128, L (ix2 p x) * X (ix2 x q) := by
  pointwise [k0_pay4]

theorem pay148_apply (W : FVec Ideal S896x128 .bf16) (ft : Vec Ideal S128x4096 .bf16) (p : Fin 896) (q : Fin 4096) :
    k0_pay148 W ft (ix2 p q) = ∑ y : Fin 128, W (ix2 p y) * ft (ix2 y q) := by
  pointwise [k0_pay148]

theorem pay5_apply (v : Vec Ideal S1x1x128x128 .f32) (y x : Fin 128) :
    k0_pay5 v (ix2 y x) = v (ix4 0 0 y x) := by
  pointwise [k0_pay5]

theorem row56_div {N n : ℕ} (c : Fin N) (r : Fin 56) (h : 56 * N = n) : (row56 n c r h).val / 56 = c.val := by
  show (56 * c.val + r.val) / 56 = _; omega

theorem row56_mod {N n : ℕ} (c : Fin N) (r : Fin 56) (h : 56 * N = n) : (row56 n c r h).val % 56 = r.val := by
  show (56 * c.val + r.val) % 56 = _; omega

theorem WYs_apply (w : Fin 16 → Fin 4 → BitVec 32) (b : Fin 16) (r : Fin 56) (y : Fin 128) :
    WYs (F := Ideal) w (ix2 (row56 896 b r) y) = WY (F := Ideal) (w b 1) (w b 3) (ix2 r y) := by
  refine (concatenate_ofFn_apply (t := S896x128) (s₁ := S56x128) 0 (fun b : Fin 16 => WY (F := Ideal) (w b 1) (w b 3))
    concatenates_S56x128_S56x128_S56x128_S56x128_S56x128_S56x128_S56x128_S56x128_S56x128_S56x128_S56x128_S56x128_S56x128_S56x128_S56x128_S56x128_S896x128_d0 rfl 56 rfl
    (ix2 (row56 896 b r) y) b (row56_div b r rfl) (ix2 r y) (row56_mod b r rfl).symm ?_)
  intro a ha
  fin_cases a
  · exact absurd rfl ha
  · rfl

/-- The canon of pieces put before others, where the first ones hold the index. -/
theorem canon_append {S : Shape} {e : EltTy} {Val : EltTy → Type} [∀ e, Nonempty (Val e)] (L M : List (View.Piece Val S e)) (y : S.Idx) (v : Val e)
    (hc : ∃ p ∈ L, y ∈ p.1.set) (h : View.AllAt L y v) : View.canon (L ++ M) y = v := by
  induction L with
  | nil => obtain ⟨p, hp, _⟩ := hc; exact absurd hp List.not_mem_nil
  | cons p L ih =>
    rw [List.cons_append]
    by_cases hm : y ∈ p.1.set
    · obtain ⟨x, rfl⟩ := p.1.exists_idx_of_mem hm
      rw [show p.1.idx x = p.1.emb x from rfl, View.canon_cons_emb]
      exact h p List.mem_cons_self x rfl
    · rw [View.canon_cons_of_not_mem _ _ hm]
      refine ih ?_ fun q hq => h q (List.mem_cons_of_mem _ hq)
      obtain ⟨q, hq, hyq⟩ := hc
      rcases List.mem_cons.mp hq with rfl | hq'
      · exact absurd hyq hm
      · exact ⟨q, hq', hyq⟩

/-- The canon of a family of pieces of one size, the last first and put before others, at an index exactly one holds. -/
theorem canon_family {S : Shape} {e : EltTy} {Val : EltTy → Type} [∀ e, Nonempty (Val e)] {N : ℕ} (off : Fin N → Fin S.rank → ℕ) (size : Fin S.rank → ℕ)
    (inb : ∀ k a, off k a + size a ≤ S.size a) (P : Fin N → (⟨S.rank, size⟩ : Shape).Idx → Val e) (M : List (View.Piece Val S e))
    (y : S.Idx) (n : Fin N) (x : (⟨S.rank, size⟩ : Shape).Idx) (hx : ∀ a, (y a).val = off n a + (x a).val)
    (hn : ∀ k, (∀ a, off k a ≤ (y a).val ∧ (y a).val < off k a + size a) → k = n) :
    View.canon (List.ofFn (fun k : Fin N => (⟨Rect.unit (off k.rev) size (inb k.rev), P k.rev⟩ : View.Piece Val S e)) ++ M) y = P n x := by
  refine canon_append _ _ _ _ ?_ ?_
  · obtain ⟨m, rfl⟩ : ∃ m : Fin N, m.rev = n := ⟨n.rev, Fin.rev_rev n⟩
    refine ⟨_, (List.mem_ofFn).mpr ⟨m, rfl⟩, (Rect.mem_set_unit (inb := inb m.rev)).mpr fun a => ?_⟩
    have h1 := hx a
    have h2 : (x a).val < size a := (x a).isLt
    omega
  · intro p hp z hz
    obtain ⟨k, rfl⟩ := (List.mem_ofFn).mp hp
    have hz' : ∀ a, (y a).val = off k.rev a + (z a).val := fun a => by
      rw [← hz, Rect.emb_apply]; show off k.rev a + 1 * (z a : ℕ) = _; omega
    have hk : k.rev = n := hn _ fun a => by
      have h1 := hz' a
      have h2 : (z a).val < size a := (z a).isLt
      omega
    refine (congrArg (fun m => P m z) hk).trans (congrArg (P n) (funext fun a => Fin.ext ?_))
    have h1 := hz' a
    have h2 := hx a
    rw [hk] at h1
    omega

variable (arg6 : Memref sig .tc .vmem S896x4096 .bf16) (arg7 : Memref sig .tc .vmem S1792x128 .bf16)

/-- A channel of a box: its rows blended. -/
theorem chan_apply (w : Fin 16 → Fin 4 → BitVec 32) (ft : Vec Ideal S128x4096 .bf16) (b : Fin 16) (c : Fin 32) (r : Fin 56) (x : Fin 128) :
    chan arg6 (rowsPiece w ft) b c (ix2 r x)
      = ∑ y : Fin 128, WY (F := Ideal) (w b 1) (w b 3) (ix2 r y) * ft (ix2 y (lane c x)) := by
  have h1 : ∀ p q, View.canon (rowsPiece w ft) (ix2 p q) = k0_pay148 (WYs w) ft (ix2 p q) := fun p q =>
    congrFun (View.canon_cons_unit_lit _ _ _ (by decide)) _
  have h2 : chan arg6 (rowsPiece w ft) b c (ix2 r x) = View.canon (rowsPiece w ft) (ix2 (row56 896 b r) (lane c x)) := by
    unfold chan
    rw [View.readCov_eq_canon']
    pointwise []
    congr 1
  rw [h2, h1, pay148_apply]
  exact Finset.sum_congr rfl fun y _ => by rw [WYs_apply]

/-- The pieces of a box over those of the boxes before it, at a row of channel `c`. -/
theorem crops_apply (T : List (View.Piece (Elt Ideal) S896x4096 .bf16)) (b : Fin 16) (c : Fin 32) (r : Fin 56) (x : Fin 128) :
    View.canon (crops arg6 T (b.val + 1) b.isLt) (ix2 (row56 1792 c r) x) = chan arg6 T b c (ix2 r x) := by
  refine canon_family (S := S1792x128) (e := .bf16) (Val := Elt Ideal) (fun k : Fin 32 => ![56 * k.val, 0]) S56x128.size inb_crop (chan arg6 T b) _ _ c (ix2 r x) ?_ ?_
  · intro a
    fin_cases a
    · rfl
    · exact (Nat.zero_add _).symm
  · intro k hk
    have h0 : 56 * k.val ≤ 56 * c.val + r.val ∧ 56 * c.val + r.val < 56 * k.val + 56 := hk 0
    exact Fin.ext (by omega)

/-- The block of a box at a row of channel `c`. -/
theorem outPay_apply (w : Fin 16 → Fin 4 → BitVec 32) (ft : Vec Ideal S128x4096 .bf16) (b : Fin 16) (c : Fin 32) (r : Fin 56) (q : Fin 56) :
    outPay w arg6 arg7 (rowsPiece w ft) b (ix4 0 0 (row56 1792 c r) q)
      = ∑ x : Fin 128, (∑ y : Fin 128, WY (F := Ideal) (w b 1) (w b 3) (ix2 r y) * ft (ix2 y (lane c x)))
          * WX (F := Ideal) (w b 0) (w b 2) (ix2 x q) := by
  unfold outPay
  rw [pay4_apply]
  refine Finset.sum_congr rfl fun x _ => ?_
  congr 1
  rw [View.readCov_eq_canon']
  rw [← chan_apply arg6, ← crops_apply]
  refine congrArg _ (funext fun a => Fin.ext ?_)
  fin_cases a
  · show 0 + 1 * _ = _; omega
  · show 0 + 1 * _ = _; omega

/-- The stored block at an index. -/
theorem outPieces_apply (w : Fin 16 → Fin 4 → BitVec 32) (ft : Vec Ideal S128x4096 .bf16) (b : Fin 16) (c : Fin 32) (r : Fin 56) (q : Fin 56) :
    View.canon (outPieces w arg6 arg7 ft) (ix4 0 b (row56 1792 c r) q)
      = ∑ x : Fin 128, (∑ y : Fin 128, WY (F := Ideal) (w b 1) (w b 3) (ix2 r y) * ft (ix2 y (lane c x)))
          * WX (F := Ideal) (w b 0) (w b 2) (ix2 x q) := by
  rw [← outPay_apply arg6 arg7, ← List.append_nil (outPieces w arg6 arg7 ft)]
  refine canon_family (S := S1x16x1792x56) (e := .f32) (Val := Elt Ideal) (fun k : Fin 16 => ![0, k.val, 0, 0]) S1x1x1792x56.size inb_out (outPay w arg6 arg7 (rowsPiece w ft)) []
    _ b (ix4 0 0 (row56 1792 c r) q) ?_ ?_
  · intro a
    fin_cases a
    · rfl
    · rfl
    · exact (Nat.zero_add _).symm
    · exact (Nat.zero_add _).symm
  · intro k hk
    have h0 : k.val ≤ b.val ∧ b.val < k.val + 1 := hk 1
    exact Fin.ext (by omega)

/-- The feature map's pieces at an index. -/
theorem mapPieces_apply (arg3 : Memref sig .tc .vmem S1x32x128x128 .f32) (harg3 : arg3.IsWhole) (x1 : Vec Ideal S1x32x128x128 .f32)
    (y : Fin 128) (c : Fin 32) (x : Fin 128) :
    View.canon (mapPieces arg3 harg3 x1) (ix2 y (lane c x)) = x1 (ix4 0 c y x) := by
  rw [← List.append_nil (mapPieces arg3 harg3 x1)]
  refine (canon_family (S := S128x4096) (e := .bf16) (Val := Elt Ideal) (fun k : Fin 32 => ![0, 128 * k.val]) S128x128.size inb_map (fun k => k0_pay5 (arg3.view.readAt (Elt Ideal)
    (Rect.unit (s := S1x32x128x128) ![0, k.val, 0, 0] S1x1x128x128.size (inb_img k)).toLoadRect (harg3.unread x1))) [] _ c (ix2 y x) ?_ ?_).trans ?_
  · intro a
    fin_cases a
    · exact (Nat.zero_add _).symm
    · rfl
  · intro k hk
    have h0 : 128 * k.val ≤ 128 * c.val + x.val ∧ 128 * c.val + x.val < 128 * k.val + 128 := hk 1
    exact Fin.ext (by omega)
  · refine (pay5_apply _ y x).trans ?_
    rw [View.readAt_apply, harg3.read_unread]
    refine congrArg x1 (funext fun a => Fin.ext ?_)
    fin_cases a
    · rfl
    · exact (Nat.add_zero _)
    · show 0 + 1 * y.val = y.val; omega
    · show 0 + 1 * x.val = x.val; omega

end Cert.KernelIdeal.Value

end
-- ==== Proof.Grid.lean ====
/- The kernel's result array as one function of the arguments: every point of the grid stores its block of it. -/
module

public import proofs.«01_k».proof.Proof.Point

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat Cfg Window)

/-- One entry of the crops: channel `ch` of box `b` of image `s` of batch `n`, at output row `r` and column `q`. -/
def crop (fm : FVec Ideal S2x8x32x128x128 .f32) (bx : IVec S2x8x64x4 32) (n : Fin 2) (s : Fin 8) (b : Fin 64) (ch : Fin 32) (r q : Fin 56) : EReal :=
  ∑ x : Fin 128, (∑ y : Fin 128, WY (F := Ideal) (bx (ix4 n s b 1)) (bx (ix4 n s b 3)) (ix2 r y) * fm (ix5 n s ch y x))
    * WX (F := Ideal) (bx (ix4 n s b 0)) (bx (ix4 n s b 2)) (ix2 x q)

/-- The kernel's result array. -/
def cropArray (fm : FVec Ideal S2x8x32x128x128 .f32) (bx : IVec S2x8x64x4 32) : FVec Ideal S2x512x1792x56 .f32 :=
  fun i => crop fm bx (i 0) ⟨(i 1).val / 64, by have : (i 1).val < 512 := (i 1).isLt; omega⟩ ⟨(i 1).val % 64, by omega⟩
    ⟨(i 2).val / 56, by have : (i 2).val < 1792 := (i 2).isLt; omega⟩ ⟨(i 2).val % 56, by omega⟩ (i 3)

theorem coords_val : ∀ t : Fin cfg0.N, (grid0.coords t 0).val = t.val / 4 ∧ (grid0.coords t 1).val = t.val % 4 :=
  (by decide +kernel : ∀ t : Fin grid0.N, (grid0.coords t 0).val = t.val / 4 ∧ (grid0.coords t 1).val = t.val % 4)

theorem index0 : ∀ t : Fin cfg0.N, win0_0.index t = ![0] :=
  (by decide +kernel : ∀ t : Fin grid0.N, win0_0.index t = ![0])

theorem index1 : ∀ t : Fin cfg0.N, win0_1.index t = ![t.val / 4, 0, 0, 0] :=
  (by decide +kernel : ∀ t : Fin grid0.N, win0_1.index t = ![t.val / 4, 0, 0, 0])

theorem index2 : ∀ t : Fin cfg0.N, win0_2.index t = ![t.val / 32, t.val / 4 % 8 * 4 + t.val % 4, 0, 0] :=
  (by decide +kernel : ∀ t : Fin grid0.N, win0_2.index t = ![t.val / 32, t.val / 4 % 8 * 4 + t.val % 4, 0, 0])

theorem off1_val : ∀ (t : Fin cfg0.N) (b : Fin 16) (k : Fin 4),
    k0_off1 (grid0.coords t) (BitVec.ofNat 32 b.val) (BitVec.ofNat 32 k.val) 0 = ((t.val / 4 * 64 + t.val % 4 * 16) + b.val) * 4 + k.val :=
  (by decide +kernel : ∀ (t : Fin grid0.N) (b : Fin 16) (k : Fin 4),
    k0_off1 (grid0.coords t) (BitVec.ofNat 32 b.val) (BitVec.ofNat 32 k.val) 0 = ((t.val / 4 * 64 + t.val % 4 * 16) + b.val) * 4 + k.val)

/-- Point `t`'s batch, image, and box `b` of its block. -/
def ptN (t : Fin cfg0.N) : Fin 2 := ⟨t.val / 32, by have := lt_of_lt_of_eq t.isLt N_0; omega⟩
def ptS (t : Fin cfg0.N) : Fin 8 := ⟨t.val / 4 % 8, by omega⟩
def ptB (t : Fin cfg0.N) (b : Fin 16) : Fin 64 := ⟨t.val % 4 * 16 + b.val, by omega⟩

variable (m : (ℓ : Loc nD τ sig) → Buf (Elt Ideal) ℓ)

theorem V_v0 (c : Dev nD) : (V m c main_v0 : FVec Ideal S16x32x128x128 .f32)
    = shapeCast S16x32x128x128 (m ((c.tc : Thread nD τ).loc main_arg0) : FVec Ideal S2x8x32x128x128 .f32) shapeCasts_S2x8x32x128x128_S16x32x128x128 := by
  entry_read; rfl

theorem V_v1 (c : Dev nD) : (V m c main_v1 : IVec S4096 32)
    = shapeCast S4096 (m ((c.tc : Thread nD τ).loc main_arg1) : IVec S2x8x64x4 32) shapeCasts_S2x8x64x4_S4096 := by
  entry_read; rfl

/-- The images one after another, read at an image. -/
theorem images_apply (fm : FVec Ideal S2x8x32x128x128 .f32) (i : Fin 16) (n : Fin 2) (s : Fin 8) (h : i.val = n.val * 8 + s.val) (ch : Fin 32) (y x : Fin 128) :
    shapeCast S16x32x128x128 fm shapeCasts_S2x8x32x128x128_S16x32x128x128 (ix4 i ch y x) = fm (ix5 n s ch y x) := by
  pointwise []
  blk_ext

/-- The boxes' words one after another, read at a word. -/
theorem words_apply (bx : IVec S2x8x64x4 32) (i : Fin 4096) (n : Fin 2) (s : Fin 8) (b : Fin 64) (k : Fin 4)
    (h : i.val = ((n.val * 8 + s.val) * 64 + b.val) * 4 + k.val) :
    shapeCast S4096 bx shapeCasts_S2x8x64x4_S4096 (ix1 i) = bx (ix4 n s b k) := by
  pointwise []
  blk_ext

/-- A word of the boxes, as point `t` loads it. -/
theorem word_apply (c : Dev nD) (t : Fin cfg0.N) (arg2 : Memref sig .tc .smem S4096 .i32) (harg2 : arg2.IsWhole) (b : Fin 16) (k : Fin 4) :
    word (F := Ideal) (grid0.coords t) arg2 harg2 (iblk m c 0 t) b k
      = (m ((c.tc : Thread nD τ).loc main_arg1) : IVec S2x8x64x4 32) (ix4 (ptN t) (ptS t) (ptB t b) k) := by
  have h1 : word (F := Ideal) (grid0.coords t) arg2 harg2 (iblk m c 0 t) b k
      = (iblk m c 0 t : Vec Ideal S4096 .i32) (ix1 ⟨((t.val / 4 * 64 + t.val % 4 * 16) + b.val) * 4 + k.val, by have := lt_of_lt_of_eq t.isLt N_0; omega⟩) := by
    unfold word
    rw [View.readAt_apply, harg2.read_unread]
    refine congrArg (iblk m c 0 t : Vec Ideal S4096 .i32) (funext fun a => Fin.ext ?_)
    fin_cases a
    exact (Nat.add_zero _).trans (off1_val t b k)
  have ht := lt_of_lt_of_eq t.isLt N_0
  rw [h1, ← words_apply (m ((c.tc : Thread nD τ).loc main_arg1)) ⟨((t.val / 4 * 64 + t.val % 4 * 16) + b.val) * 4 + k.val, by omega⟩ (ptN t) (ptS t) (ptB t b) k
    (by simp only [ptN, ptS, ptB]; omega), ← V_v1]
  blk_simp [iblk]
  refine congrArg (V m c main_v1 : IVec S4096 32) ?_
  blk_ext [index0 t]

/-- An entry of the feature map's block at point `t`. -/
theorem image_apply (c : Dev nD) (t : Fin cfg0.N) (ch : Fin 32) (y x : Fin 128) :
    (iblk m c 1 t : Vec Ideal S1x32x128x128 .f32) (ix4 0 ch y x)
      = (m ((c.tc : Thread nD τ).loc main_arg0) : FVec Ideal S2x8x32x128x128 .f32) (ix5 (ptN t) (ptS t) ch y x) := by
  have ht := lt_of_lt_of_eq t.isLt N_0
  rw [← images_apply (m ((c.tc : Thread nD τ).loc main_arg0)) ⟨t.val / 4, by omega⟩ (ptN t) (ptS t) (by simp only [ptN, ptS]; omega), ← V_v0]
  blk_simp [iblk]
  refine congrArg (V m c main_v0 : FVec Ideal S16x32x128x128 .f32) ?_
  blk_ext [index1 t]

theorem fst_of {α β : Type*} {p : α × β} {a : α} {b : β} (h : p = (a, b)) : p.1 = a := by rw [h]
theorem snd_of {α β : Type*} {p : α × β} {a : α} {b : β} (h : p = (a, b)) : p.2 = b := by rw [h]

/-- What an image's first point leaves in the scratch carried between points, -/
theorem outs_A_map (c : Dev nD) (t : Fin cfg0.N) (h0 : t.val % 4 = 0) :
    (outsAt0 m c t.val t.isLt).2 = View.canon (mapPieces (ms0_1 t) (hs0_1 t) (iblk m c 1 t)) := by
  exact (snd_of (outsAt0_A m c t h0)).trans (sout_A _ _ _ _ _ _ _ _ _ _ _ _ _ _ _ _ _)

/-- and in its block; -/
theorem outs_A_block (c : Dev nD) (t : Fin cfg0.N) (h0 : t.val % 4 = 0) :
    (outsAt0 m c t.val t.isLt).1 = View.canon (outPieces (word (grid0.coords t) (ms0_0 t) (hs0_0 t) (iblk m c 0 t)) scM0_1 scM0_2
      (scM0_0.view.readCov (mapPieces (ms0_1 t) (hs0_1 t) (iblk m c 1 t)) (Rect.unit (s := S128x4096) ![0, 0] S128x4096.size inb_S128x4096_S128x4096_0_0).toLoadRect)) := by
  exact (fst_of (outsAt0_A m c t h0)).trans (out_A _ _ _ _ _ _ _ _ _ _ _ _ _ _ _ _ _)

/-- a later point leaves the scratch as it was, -/
theorem outs_B_map (c : Dev nD) (t : Fin cfg0.N) (h0 : ¬t.val % 4 = 0) :
    (outsAt0 m c t.val t.isLt).2 = (outsAt0 m c (t.val - 1) (Nat.lt_of_le_of_lt (Nat.sub_le _ _) t.isLt)).2 := by
  exact snd_of (outsAt0_B m c t h0)

/-- and in its block what it makes of it. -/
theorem outs_B_block (c : Dev nD) (t : Fin cfg0.N) (h0 : ¬t.val % 4 = 0) :
    (outsAt0 m c t.val t.isLt).1 = View.canon (outPieces (word (grid0.coords t) (ms0_0 t) (hs0_0 t) (iblk m c 0 t)) scM0_1 scM0_2
      (scM0_0.view.readAt (Elt Ideal) (Rect.unit (s := S128x4096) ![0, 0] S128x4096.size inb_S128x4096_S128x4096_0_0).toLoadRect
        ((Memref.isWhole_whole _ : (scM0_0 : Memref sig .tc .vmem S128x4096 .bf16).IsWhole).unread (outsAt0 m c (t.val - 1) (Nat.lt_of_le_of_lt (Nat.sub_le _ _) t.isLt)).2))) := by
  exact (fst_of (outsAt0_B m c t h0)).trans (out_B _ _ _ _ _ _ _ _ _ _ _ _ _ _ _ _ _ _)

/-- What the kernel carries between points: the image, its channels side by side. -/
theorem carried (c : Dev nD) (k : ℕ) : ∀ (t : Fin cfg0.N), t.val = k → ∀ (ch : Fin 32) (y x : Fin 128),
    (outsAt0 m c t.val t.isLt).2 (ix2 y (lane ch x))
      = (m ((c.tc : Thread nD τ).loc main_arg0) : FVec Ideal S2x8x32x128x128 .f32) (ix5 (ptN t) (ptS t) ch y x) := by
  induction k using Nat.strong_induction_on with
  | _ k ih =>
    intro t hk ch y x
    by_cases h0 : t.val % 4 = 0
    · rw [outs_A_map m c t h0, mapPieces_apply, image_apply]
    · rw [outs_B_map m c t h0]
      have e := ih (t.val - 1) (by omega) ⟨t.val - 1, lt_of_le_of_lt (Nat.sub_le _ _) t.isLt⟩ rfl ch y x
      have eN : ptN ⟨t.val - 1, lt_of_le_of_lt (Nat.sub_le _ _) t.isLt⟩ = ptN t := Fin.ext (by simp only [ptN]; omega)
      have eS : ptS ⟨t.val - 1, lt_of_le_of_lt (Nat.sub_le _ _) t.isLt⟩ = ptS t := Fin.ext (by simp only [ptS]; omega)
      rw [eN, eS] at e
      exact e

/-- The block of a point whose stored pieces are `outPieces` over the image, at an index. -/
theorem block_apply (c : Dev nD) (t : Fin cfg0.N) (arg2 : Memref sig .tc .smem S4096 .i32) (harg2 : arg2.IsWhole)
    (arg6 : Memref sig .tc .vmem S896x4096 .bf16) (arg7 : Memref sig .tc .vmem S1792x128 .bf16) (ft : Vec Ideal S128x4096 .bf16)
    (hft : ∀ ch y x, ft (ix2 y (lane ch x)) = (m ((c.tc : Thread nD τ).loc main_arg0) : FVec Ideal S2x8x32x128x128 .f32) (ix5 (ptN t) (ptS t) ch y x))
    (b : Fin 16) (ch : Fin 32) (r q : Fin 56) :
    View.canon (outPieces (word (grid0.coords t) arg2 harg2 (iblk m c 0 t)) arg6 arg7 ft) (ix4 0 b (row56 1792 ch r) q)
      = crop (m ((c.tc : Thread nD τ).loc main_arg0)) (m ((c.tc : Thread nD τ).loc main_arg1)) (ptN t) (ptS t) (ptB t b) ch r q := by
  rw [outPieces_apply]
  simp only [word_apply, hft]
  rfl

/-- The block point `t` leaves, at an index. -/
theorem point_apply (c : Dev nD) (t : Fin cfg0.N) (b : Fin 16) (ch : Fin 32) (r q : Fin 56) :
    (outsAt0 m c t.val t.isLt).1 (ix4 0 b (row56 1792 ch r) q)
      = crop (m ((c.tc : Thread nD τ).loc main_arg0)) (m ((c.tc : Thread nD τ).loc main_arg1)) (ptN t) (ptS t) (ptB t b) ch r q := by
  by_cases h0 : t.val % 4 = 0
  · rw [outs_A_block m c t h0]
    refine block_apply m c t _ _ _ _ _ (fun ch y x => ?_) b ch r q
    rw [View.readCov_eq_canon', ← image_apply m c t, ← mapPieces_apply (ms0_1 t) (hs0_1 t) (iblk m c 1 t)]
    refine congrArg _ (funext fun a => Fin.ext ?_)
    fin_cases a
    · show 0 + 1 * _ = _; omega
    · show 0 + 1 * _ = _; omega
  · rw [outs_B_block m c t h0]
    refine block_apply m c t _ _ _ _ _ (fun ch y x => ?_) b ch r q
    have e := carried m c _ t rfl ch y x
    rw [outs_B_map m c t h0] at e
    rw [← e, View.readAt_apply, Memref.IsWhole.read_unread]
    refine congrArg _ (funext fun a => Fin.ext ?_)
    fin_cases a
    · show 0 + 1 * _ = _; omega
    · show 0 + 1 * _ = _; omega

/-- The result array after the whole grid. -/
theorem final (c : Dev nD) :
    ((dats m 0 c).arrAt 2 cfg0.N : FVec Ideal S2x512x1792x56 .f32)
      = cropArray (m ((c.tc : Thread nD τ).loc main_arg0)) (m ((c.tc : Thread nD τ).loc main_arg1)) := by
  refine Dat.arrAt_eq_of_covers (dats m 0 c) 2 _ (by decide +kernel) fun t _ y => ?_
  blk_simp
  rw [after0_2]
  have ht := lt_of_lt_of_eq t.isLt N_0
  have y1 : (y 1).val < 16 := (y 1).isLt
  have y2 : (y 2).val < 1792 := (y 2).isLt
  have hy : y = (ix4 0 ⟨(y 1).val, y1⟩ (row56 1792 (⟨(y 2).val / 56, by omega⟩ : Fin 32) ⟨(y 2).val % 56, by omega⟩) ⟨(y 3).val, (y 3).isLt⟩ : S1x16x1792x56.Idx) :=
    funext fun a => Fin.ext (by
      fin_cases a
      · show (y 0).val = 0
        have : (y 0).val < 1 := (y 0).isLt
        omega
      · rfl
      · show (y 2).val = 56 * ((y 2).val / 56) + (y 2).val % 56; omega
      · rfl)
  refine (congrArg (outsAt0 m c t.val t.isLt).1 hy).trans ((point_apply m c t _ _ _ _).trans ?_)
  unfold cropArray
  congr 1
  all_goals refine Fin.ext ?_
  all_goals blk_simp [index2 t]
  all_goals simp only [ptN, ptS, ptB]
  all_goals omega

end Cert.KernelIdeal.Value

end
-- ==== Proof.Axis.lean ====
/- One axis of a crop: the two positions an output position reads, the weight of each, and the sum that takes them. -/
module

public import Idealize.ShloMosaic.Lib.Pipeline.ValueKit
public import Idealize.ShloMosaic.Lib.IdealHost

@[expose] public section

set_option maxRecDepth 16384

noncomputable section

namespace Cert.Axis

open Idealize.ShloMosaic

/-- The source coordinate of output position `i` in a box of length `len`. -/
def src (len : EReal) (i : Fin 56) : EReal :=
  max (((FloatOps.sitofp (F := Ideal) FTy.f32 (BitVec.ofNat 32 i.val) : EReal) + Ideal.ofBits FTy.f32 1056964608#32) *
      Ideal.div len (Ideal.ofBits FTy.f32 1113587712#32) - Ideal.ofBits FTy.f32 1056964608#32) 0

/-- The lower position read, inside the box whose last position is `last`. -/
def low (len : EReal) (last : BitVec 32) (i : Fin 56) : BitVec 32 :=
  IntOp.minsi (FloatOps.fptosi (F := Ideal) (φ := FTy.f32) 32 (Ideal.liftRound Int.floor (src len i))) last

/-- The upper position read. -/
def high (len : EReal) (last : BitVec 32) (i : Fin 56) : BitVec 32 :=
  IntOp.minsi (IntOp.addi (low len last i) 1#32) last

/-- The weight of the upper position. -/
def wt (len : EReal) (last : BitVec 32) (i : Fin 56) : EReal :=
  src len i - (FloatOps.sitofp (F := Ideal) FTy.f32 (low len last i) : EReal)

/-- The length of a box along the axis, as a number. -/
def len (lo hi : BitVec 32) : EReal := (((IntOp.subi hi lo).toInt : ℝ) : EReal)

/-- The last position of a box along the axis. -/
def last (lo hi : BitVec 32) : BitVec 32 := IntOp.subi (IntOp.subi hi lo) 1#32

/-- The lower position in the whole map, -/
def posLow (lo hi : BitVec 32) (i : Fin 56) : BitVec 32 := IntOp.addi lo (low (len lo hi) (last lo hi) i)
/-- the upper one, -/
def posHigh (lo hi : BitVec 32) (i : Fin 56) : BitVec 32 := IntOp.addi lo (high (len lo hi) (last lo hi) i)
/-- and its weight. -/
def weight (lo hi : BitVec 32) (i : Fin 56) : EReal := wt (len lo hi) (last lo hi) i

/-- The weight the kernel gives map position `y` for output position `i`. -/
def tap (lo hi : BitVec 32) (i : Fin 56) (y : Fin 128) : EReal :=
  Scalar.select (IntOp.cmpi .eq (BitVec.ofNat 32 y.val) (posLow lo hi i)) (1 - weight lo hi i) 0
    + Scalar.select (IntOp.cmpi .eq (BitVec.ofNat 32 y.val) (posHigh lo hi i)) (weight lo hi i) 0

/-- A box along one axis: nonempty and inside the map. -/
structure Valid (lo hi : BitVec 32) : Prop where
  lo_nonneg : 0 ≤ lo.toInt
  lt : lo.toInt < hi.toInt
  hi_le : hi.toInt ≤ 128

/-- The bits of a half, -/
theorem ofBits_half : Ideal.ofBits FTy.f32 1056964608#32 = (((1 : ℝ) / 2 : ℝ) : EReal) := by
  simp [Ideal.ofBits, Ideal.ieee, -EReal.coe_mul]; norm_num

/-- and of 56. -/
theorem ofBits_56 : Ideal.ofBits FTy.f32 1113587712#32 = ((56 : ℝ) : EReal) := by
  simp [Ideal.ofBits, Ideal.ieee, -EReal.coe_mul]; norm_num

/-- A whole number a word can hold, rounded towards zero, is itself. -/
theorem fptosi_int (z : ℤ) (h0 : -2147483648 ≤ z) (h1 : z ≤ 2147483647) :
    FloatOps.fptosi (F := Ideal) (φ := FTy.f32) 32 (((z : ℝ) : EReal)) = BitVec.ofInt 32 z := by
  show BitVec.ofInt 32 (Ideal.toIntClamped _ _ _) = _
  rw [Ideal.toIntClamped_coe]
  congr 1
  simp only [Int.floor_intCast, Int.ceil_intCast, ite_self]
  norm_num
  omega

/-- Words that are small numbers: a sum and a lesser of two. -/
theorem ofInt_add (a b : ℤ) : IntOp.addi (BitVec.ofInt 32 a) (BitVec.ofInt 32 b) = BitVec.ofInt 32 (a + b) :=
  (BitVec.ofInt_add a b).symm

theorem toInt_small (a : ℤ) (h0 : -2147483648 ≤ a) (h1 : a ≤ 2147483647) : (BitVec.ofInt 32 a).toInt = a := by
  rw [BitVec.toInt_ofInt]
  exact Int.bmod_eq_of_le (by norm_num; omega) (by norm_num; omega)

theorem ofInt_min (a b : ℤ) (ha0 : -2147483648 ≤ a) (ha1 : a ≤ 2147483647) (hb0 : -2147483648 ≤ b) (hb1 : b ≤ 2147483647) :
    IntOp.minsi (BitVec.ofInt 32 a) (BitVec.ofInt 32 b) = BitVec.ofInt 32 (min a b) := by
  unfold IntOp.minsi
  simp only [BitVec.slt_iff_toInt_lt, toInt_small a ha0 ha1, toInt_small b hb0 hb1]
  split <;> congr 1 <;> omega

theorem ofInt_toInt (a : BitVec 32) : BitVec.ofInt 32 a.toInt = a := BitVec.ofInt_toInt

/-- A difference of two small words. -/
theorem subi_eq (lo hi : BitVec 32) : IntOp.subi hi lo = BitVec.ofInt 32 (hi.toInt - lo.toInt) := by
  unfold IntOp.subi
  apply BitVec.eq_of_toInt_eq
  rw [BitVec.toInt_sub, BitVec.toInt_ofInt]

/-- The source coordinate of a box of `n` positions is a number in `[0, n)`. -/
theorem src_real (n : ℤ) (h1 : 1 ≤ n) (h2 : n ≤ 128) (i : Fin 56) :
    ∃ s : ℝ, 0 ≤ s ∧ s < n ∧ src ((n : ℝ) : EReal) i = (s : EReal) := by
  have hi : (BitVec.ofNat 32 i.val).toInt = i.val := by
    rw [BitVec.toInt_eq_toNat_cond, BitVec.toNat_ofNat]
    split <;> omega
  refine ⟨max (((i.val : ℝ) + 1 / 2) * ((n : ℝ) * (1 / 56)) - 1 / 2) 0, le_max_right _ _, ?_, ?_⟩
  · have hn : (1 : ℝ) ≤ n := by exact_mod_cast h1
    have hi' : (i.val : ℝ) ≤ 55 := by exact_mod_cast (by omega : i.val ≤ 55)
    refine max_lt ?_ (by linarith)
    nlinarith
  · unfold src
    rw [ofBits_half, ofBits_56, Ideal.div_coe (by norm_num)]
    show max ((((((BitVec.ofNat 32 i.val).toInt : ℝ)) : EReal) + _) * _ - _) _ = _
    rw [hi]
    norm_cast

/-- A box's two positions and the weight: all in range. -/
theorem valid_axis (lo hi : BitVec 32) (h : Valid lo hi) (i : Fin 56) :
    (posLow lo hi i).toNat < 128 ∧ (posHigh lo hi i).toNat < 128 ∧
      ∃ w : ℝ, 0 ≤ w ∧ w ≤ 1 ∧ weight lo hi i = (w : EReal) := by
  obtain ⟨h0, h1, h2⟩ := h
  have hn := toInt_small (hi.toInt - lo.toInt) (by omega) (by omega)
  have hlen : len lo hi = (((hi.toInt - lo.toInt : ℤ) : ℝ) : EReal) := by
    unfold len; rw [subi_eq, hn]
  have hlast : last lo hi = BitVec.ofInt 32 (hi.toInt - lo.toInt - 1) := by
    unfold last; rw [subi_eq lo hi, subi_eq, hn]; rfl
  obtain ⟨s, s0, sn, hs⟩ := src_real (hi.toInt - lo.toInt) (by omega) (by omega) i
  have f0 : 0 ≤ ⌊s⌋ := Int.floor_nonneg.mpr s0
  have f1 : ⌊s⌋ < hi.toInt - lo.toInt := Int.floor_lt.mpr sn
  have hlow : low (len lo hi) (last lo hi) i = BitVec.ofInt 32 ⌊s⌋ := by
    unfold low
    rw [hlen, hs, hlast, Ideal.liftRound_coe, fptosi_int _ (by omega) (by omega), ofInt_min _ _ (by omega) (by omega) (by omega) (by omega)]
    congr 1; omega
  have hhigh : high (len lo hi) (last lo hi) i = BitVec.ofInt 32 (min (⌊s⌋ + 1) (hi.toInt - lo.toInt - 1)) := by
    unfold high
    rw [hlow, hlast, show (1#32 : BitVec 32) = BitVec.ofInt 32 1 from rfl, ofInt_add, ofInt_min _ _ (by omega) (by omega) (by omega) (by omega)]
  have small (z : ℤ) (z0 : 0 ≤ z) (z1 : z < hi.toInt - lo.toInt) : (IntOp.addi lo (BitVec.ofInt 32 z)).toNat < 128 := by
    rw [← ofInt_toInt lo, ofInt_add]
    have e := toInt_small (lo.toInt + z) (by omega) (by omega)
    have := BitVec.toInt_eq_toNat_cond (BitVec.ofInt 32 (lo.toInt + z))
    have := (BitVec.ofInt 32 (lo.toInt + z)).isLt
    split at * <;> omega
  refine ⟨?_, ?_, s - ⌊s⌋, ?_, ?_, ?_⟩
  · unfold posLow; rw [hlow]; exact small _ f0 f1
  · unfold posHigh; rw [hhigh]; exact small _ (by omega) (by omega)
  · linarith [Int.floor_le s]
  · linarith [Int.lt_floor_add_one s]
  · unfold weight wt
    rw [hlow, hlen, hs]
    show (s : EReal) - ((((BitVec.ofInt 32 ⌊s⌋).toInt : ℝ)) : EReal) = _
    rw [toInt_small _ (by omega) (by omega)]
    norm_cast

/-- A sum that picks one position. -/
theorem sum_pick (f : Fin 128 → EReal) (p : BitVec 32) (hp : p.toNat < 128) (a : EReal) :
    ∑ y : Fin 128, Scalar.select (IntOp.cmpi .eq (BitVec.ofNat 32 y.val) p) a 0 * f y = a * f ⟨p.toNat, hp⟩ := by
  rw [Finset.sum_eq_single (⟨p.toNat, hp⟩ : Fin 128)]
  · congr 1
    unfold Scalar.select IntOp.cmpi
    simp
  · intro y _ hy
    have : ¬ BitVec.ofNat 32 y.val = p := by
      intro h
      apply hy
      apply Fin.ext
      have e := congrArg BitVec.toNat h
      simp only [BitVec.toNat_ofNat] at e
      show y.val = p.toNat
      omega
    unfold Scalar.select IntOp.cmpi
    simp [beq_eq_false_iff_ne.mpr this]
  · simp

/-- The kernel's weighted sum over a whole row of the map takes the two positions read, each with its weight. -/
theorem sum_tap (lo hi : BitVec 32) (h : Valid lo hi) (i : Fin 56) (f : Fin 128 → EReal) :
    ∑ y : Fin 128, tap lo hi i y * f y
      = (1 - weight lo hi i) * f ⟨(posLow lo hi i).toNat, (valid_axis lo hi h i).1⟩
        + weight lo hi i * f ⟨(posHigh lo hi i).toNat, (valid_axis lo hi h i).2.1⟩ := by
  obtain ⟨hp, hq, w, w0, w1, hw⟩ := valid_axis lo hi h i
  have a0 : (0 : EReal) ≤ 1 - (w : EReal) := by
    have : (1 : EReal) - (w : EReal) = ((1 - w : ℝ) : EReal) := by norm_cast
    rw [this]; exact_mod_cast (by linarith : (0 : ℝ) ≤ 1 - w)
  have b0 : (0 : EReal) ≤ (w : EReal) := by exact_mod_cast w0
  have nonneg (c : BitVec 1) (a : EReal) (ha : 0 ≤ a) : 0 ≤ Scalar.select c a 0 := by
    unfold Scalar.select; split
    · exact ha
    · exact le_refl _
  rw [← sum_pick f _ hp, ← sum_pick f _ hq, ← Finset.sum_add_distrib]
  refine Finset.sum_congr rfl fun y _ => ?_
  unfold tap
  rw [hw]
  exact EReal.right_distrib_of_nonneg (nonneg _ _ a0) (nonneg _ _ b0)

/-- A position in the map, as the reference's indexing operation takes it, is itself. -/
theorem wrap_eq (p : BitVec 32) (hp : p.toNat < 128) :
    min (Scalar.select (IntOp.cmpi .slt p 0#32) (IntOp.addi p 128#32) p).toInt.toNat 127 = p.toNat := by
  have e := BitVec.toInt_eq_toNat_cond p
  have hi : p.toInt = p.toNat := by rw [e, if_pos (by omega)]
  have hs : p.slt 0#32 = false := by
    rw [Bool.eq_false_iff, ne_eq, BitVec.slt_iff_toInt_lt, hi]
    simp
  unfold Scalar.select IntOp.cmpi
  simp only [hs]
  rw [if_neg (by decide), hi]
  omega

end Cert.Axis

end
-- ==== Proof.Taps.lean ====
/- The kernel's two weight tables, read at an index: each is the weight of a map position for an output position. -/
module

public import proofs.«01_k».proof.Proof.Body
public import proofs.«01_k».proof.Proof.Axis

@[expose] public section

set_option maxRecDepth 16384

noncomputable section

namespace Cert.KernelIdeal.Value

open Cert.KernelIdeal Cert.KernelIdeal.Gen Idealize.ShloMosaic Idealize.ShloMosaic.TcCoe Idealize.SL.Sem

/-- The table that blends rows, -/
theorem WY_apply (y1 y2 : BitVec 32) (r : Fin 56) (y : Fin 128) : WY (F := Ideal) y1 y2 (ix2 r y) = Axis.tap y1 y2 r y := by
  pointwise [WY, k0_pay45, k0_pay42, k0_pay43, k0_pay44]
  rfl

/-- and the one that blends columns. -/
theorem WX_apply (x1 x2 : BitVec 32) (q : Fin 56) (x : Fin 128) : WX (F := Ideal) x1 x2 (ix2 x q) = Axis.tap x1 x2 q x := by
  pointwise [WX, k0_pay146]
  rfl

end Cert.KernelIdeal.Value

end
-- ==== Proof.Ref.lean ====
/- The reference's result written once for either set of images, and read at an index. -/
module

public import proofs.«01_k».proof.Proof.Gen.ReferenceIdeal.Run
public import proofs.«01_k».proof.Proof.Axis
public import Idealize.ShloMosaic.Lib.Pipeline.ValueKit

@[expose] public section

set_option maxRecDepth 16384

noncomputable section

namespace Cert.ReferenceIdeal.Value

open Cert.ReferenceIdeal Cert.ReferenceIdeal.Gen Idealize.ShloMosaic Idealize.ShloMosaic.TcCoe Idealize.SL.Sem

/-- The source coordinate of every output position of every box, from the boxes' lengths along one axis. -/
def refSrc (len : FVec Ideal S8x64 .f32) : FVec Ideal S8x64x56 .f32 :=
  maximumf (subf (mulf (broadcastInDim S8x64x56 ![0, 1, 2] bcast_S1x1x56_S8x64x56_0_1_2 (broadcastInDim S1x1x56 ![1, 2] bcast_S1x56_S1x1x56_1_2 (broadcastInDim S1x56 ![1] bcast_S56_S1x56_1 (addf (sitofp .f32 (iotaInDim S56 32 0)) (broadcastInDim S56 ![] bcast_S_S56 (constant S_ .f32 0x3F000000#32)))))) (broadcastInDim S8x64x56 ![0, 1, 2] bcast_S8x64x1_S8x64x56_0_1_2 (broadcastInDim S8x64x1 ![0, 1] bcast_S8x64_S8x64x1_0_1 (Host.divf len (broadcastInDim S8x64 ![] bcast_S_S8x64 (constant S_ .f32 0x42600000#32)))))) (broadcastInDim S8x64x56 ![] bcast_S_S8x64x56 (constant S_ .f32 0x3F000000#32))) (broadcastInDim S8x64x56 ![] bcast_S_S8x64x56 (constant S_ .f32 0x00000000#32))

/-- The last position of every box along the axis. -/
def refLast (len : FVec Ideal S8x64 .f32) : IVec S8x64x56 32 :=
  broadcastInDim S8x64x56 ![0, 1, 2] bcast_S8x64x1_S8x64x56_0_1_2 (broadcastInDim S8x64x1 ![0, 1] bcast_S8x64_S8x64x1_0_1 (subi (fptosi 32 len) (broadcastInDim S8x64 ![] bcast_S_S8x64 (constantI S_ 32 1#32))))

/-- The lower of the two positions read. -/
def refLow (len : FVec Ideal S8x64 .f32) : IVec S8x64x56 32 :=
  minsi (fptosi 32 (Host.floor (refSrc len))) (refLast len)

/-- The upper of the two positions read. -/
def refHigh (len : FVec Ideal S8x64 .f32) : IVec S8x64x56 32 :=
  minsi (addi (refLow len) (broadcastInDim S8x64x56 ![] bcast_S_S8x64x56 (constantI S_ 32 1#32))) (refLast len)

/-- A position inside the box, moved by the box's origin. -/
def refAbs (o : IVec S8x64 32) (i : IVec S8x64x56 32) : IVec S8x64x56 32 :=
  addi (broadcastInDim S8x64x56 ![0, 1, 2] bcast_S8x64x1_S8x64x56_0_1_2 (broadcastInDim S8x64x1 ![0, 1] bcast_S8x64_S8x64x1_0_1 o)) i

/-- A position as the indexing operation takes it: a negative one counts from the end. -/
def refPos (p : IVec S8x64x56 32) : IVec S8x64x56x1 32 :=
  broadcastInDim S8x64x56x1 ![0, 1, 2] bcast_S8x64x56_S8x64x56x1_0_1_2 (select (cmpi .slt p (broadcastInDim S8x64x56 ![] bcast_S_S8x64x56 (constantI S_ 32 0#32))) (addi p (broadcastInDim S8x64x56 ![] bcast_S_S8x64x56 (constantI S_ 32 128#32))) p)

/-- The weight of the upper position. -/
def refWt (len : FVec Ideal S8x64 .f32) : FVec Ideal S8x64x56 .f32 :=
  subf (refSrc len) (sitofp .f32 (refLow len))

/-- The boxes' rows: the feature map blended along its rows. -/
def refRows (fm : FVec Ideal S8x32x128x128 .f32) (o : IVec S8x64 32) (len : FVec Ideal S8x64 .f32) : FVec Ideal S8x64x32x56x128 .f32 :=
  addf (mulf (Host.gather gather_S8x32x128x128_S8x64x56x1_S8x64x32x56x128_24_2_0_0_2_3_1321128 fm (refPos (refAbs o (refLow len)))) (broadcastInDim S8x64x32x56x128 ![0, 1, 2, 3, 4] bcast_S8x64x1x56x1_S8x64x32x56x128_0_1_2_3_4 (subf (broadcastInDim S8x64x1x56x1 ![] bcast_S_S8x64x1x56x1 (constant S_ .f32 0x3F800000#32)) (broadcastInDim S8x64x1x56x1 ![0, 1, 3] bcast_S8x64x56_S8x64x1x56x1_0_1_3 (refWt len))))) (mulf (Host.gather gather_S8x32x128x128_S8x64x56x1_S8x64x32x56x128_24_2_0_0_2_3_1321128 fm (refPos (refAbs o (refHigh len)))) (broadcastInDim S8x64x32x56x128 ![0, 1, 2, 3, 4] bcast_S8x64x1x56x1_S8x64x32x56x128_0_1_2_3_4 (broadcastInDim S8x64x1x56x1 ![0, 1, 3] bcast_S8x64x56_S8x64x1x56x1_0_1_3 (refWt len))))

/-- The boxes' crops: the rows blended along the columns. -/
def refCrops (rows : FVec Ideal S8x64x32x56x128 .f32) (o : IVec S8x64 32) (len : FVec Ideal S8x64 .f32) : FVec Ideal S8x64x32x56x56 .f32 :=
  addf (mulf (Host.gather gather_S8x64x32x56x128_S8x64x56x1_S8x64x32x56x56_23_4_01_01_4_3_1132561 rows (refPos (refAbs o (refLow len)))) (broadcastInDim S8x64x32x56x56 ![0, 1, 2, 3, 4] bcast_S8x64x1x1x56_S8x64x32x56x56_0_1_2_3_4 (subf (broadcastInDim S8x64x1x1x56 ![] bcast_S_S8x64x1x1x56 (constant S_ .f32 0x3F800000#32)) (broadcastInDim S8x64x1x1x56 ![0, 1, 4] bcast_S8x64x56_S8x64x1x1x56_0_1_4 (refWt len))))) (mulf (Host.gather gather_S8x64x32x56x128_S8x64x56x1_S8x64x32x56x56_23_4_01_01_4_3_1132561 rows (refPos (refAbs o (refHigh len)))) (broadcastInDim S8x64x32x56x56 ![0, 1, 2, 3, 4] bcast_S8x64x1x1x56_S8x64x32x56x56_0_1_2_3_4 (broadcastInDim S8x64x1x1x56 ![0, 1, 4] bcast_S8x64x56_S8x64x1x1x56_0_1_4 (refWt len))))

/-- One corner coordinate of every box of a set of images. -/
def refCorner (bx : IVec S8x64x4 32) (k : Nat) (h : S8x64x4.Slices ![0, 0, k] S8x64x1) : IVec S8x64 32 :=
  shapeCast _ (extractStridedSlice S8x64x1 ![0, 0, k] bx h) shapeCasts_S8x64x1_S8x64

/-- The crops of one set of images. -/
def refHalf (fm : FVec Ideal S8x32x128x128 .f32) (bx : IVec S8x64x4 32) : FVec Ideal S8x64x32x56x56 .f32 :=
  refCrops
    (refRows fm (refCorner bx 1 slices_S8x64x4_S8x64x1_0_0_1)
      (sitofp .f32 (subi (refCorner bx 3 slices_S8x64x4_S8x64x1_0_0_3) (refCorner bx 1 slices_S8x64x4_S8x64x1_0_0_1))))
    (refCorner bx 0 slices_S8x64x4_S8x64x1_0_0_0)
    (sitofp .f32 (subi (refCorner bx 2 slices_S8x64x4_S8x64x1_0_0_2) (refCorner bx 0 slices_S8x64x4_S8x64x1_0_0_0)))

/-- The crops of one set of images, as a slab of the result. -/
def refSlab (fm : FVec Ideal S8x32x128x128 .f32) (bx : IVec S8x64x4 32) : FVec Ideal S1x512x32x56x56 .f32 :=
  broadcastInDim S1x512x32x56x56 ![1, 2, 3, 4] bcast_S512x32x56x56_S1x512x32x56x56_1_2_3_4 (shapeCast _ (refHalf fm bx) shapeCasts_S8x64x32x56x56_S512x32x56x56)

/-- The reference's result. -/
def refOut (fm : FVec Ideal S2x8x32x128x128 .f32) (bx : IVec S2x8x64x4 32) : FVec Ideal S2x512x32x56x56 .f32 :=
  concatenate S2x512x32x56x56 0 [
    ⟨S1x512x32x56x56, refSlab
      (shapeCast _ (extractStridedSlice S1x8x32x128x128 ![0, 0, 0, 0, 0] fm slices_S2x8x32x128x128_S1x8x32x128x128_0_0_0_0_0) shapeCasts_S1x8x32x128x128_S8x32x128x128)
      (shapeCast _ (extractStridedSlice S1x8x64x4 ![0, 0, 0, 0] bx slices_S2x8x64x4_S1x8x64x4_0_0_0_0) shapeCasts_S1x8x64x4_S8x64x4)⟩,
    ⟨S1x512x32x56x56, refSlab
      (shapeCast _ (extractStridedSlice S1x8x32x128x128 ![1, 0, 0, 0, 0] fm slices_S2x8x32x128x128_S1x8x32x128x128_1_0_0_0_0) shapeCasts_S1x8x32x128x128_S8x32x128x128)
      (shapeCast _ (extractStridedSlice S1x8x64x4 ![1, 0, 0, 0] bx slices_S2x8x64x4_S1x8x64x4_1_0_0_0) shapeCasts_S1x8x64x4_S8x64x4)⟩]
    concatenates_S1x512x32x56x56_S1x512x32x56x56_S2x512x32x56x56_d0

open Idealize.ShloMosaic.StableHlo

/-- The reference runs, and its result is `refOut` of its arguments. -/
theorem run_refOut (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v276) = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run m ρ

/-- The first indexing operation reads, of an image's channel, the row named by the position (kept inside the map). -/
theorem gatherRows_apply (fm : FVec Ideal S8x32x128x128 .f32) (p : IVec S8x64x56x1 32) (n : Fin 8) (b : Fin 64) (c : Fin 32) (i : Fin 56) (x : Fin 128) :
    Host.gather gather_S8x32x128x128_S8x64x56x1_S8x64x32x56x128_24_2_0_0_2_3_1321128 fm p (ix5 n b c i x)
      = fm (ix4 n c ⟨min (p (ix4 n b i 0)).toInt.toNat 127, by omega⟩ x) := by
  have hs : gather_S8x32x128x128_S8x64x56x1_S8x64x32x56x128_24_2_0_0_2_3_1321128.siIdx (ix5 n b c i x) ⟨0, by decide⟩ = ix4 n b i 0 := by
    funext a; fin_cases a <;> rfl
  refine congrArg fm (funext fun a => Fin.ext ?_)
  fin_cases a
  · exact (congrArg (· + n.val + 0) (dif_neg (by decide))).trans (by simp)
  · exact (congrArg (· + 0 + c.val) (dif_neg (by decide))).trans (by simp)
  · refine (congrArg (· + 0 + 0) (dif_pos (by decide))).trans ?_
    exact congrArg (fun z => min (p z).toInt.toNat 127) hs
  · exact (congrArg (· + 0 + x.val) (dif_neg (by decide))).trans (by simp)

/-- The second reads, of a box's row, the column named by the position (kept inside the map). -/
theorem gatherCols_apply (rows : FVec Ideal S8x64x32x56x128 .f32) (p : IVec S8x64x56x1 32) (n : Fin 8) (b : Fin 64) (c : Fin 32) (r q : Fin 56) :
    Host.gather gather_S8x64x32x56x128_S8x64x56x1_S8x64x32x56x56_23_4_01_01_4_3_1132561 rows p (ix5 n b c r q)
      = rows (ix5 n b c r ⟨min (p (ix4 n b q 0)).toInt.toNat 127, by omega⟩) := by
  have hs : gather_S8x64x32x56x128_S8x64x56x1_S8x64x32x56x56_23_4_01_01_4_3_1132561.siIdx (ix5 n b c r q) ⟨0, by decide⟩ = ix4 n b q 0 := by
    funext a; fin_cases a <;> rfl
  refine congrArg rows (funext fun a => Fin.ext ?_)
  fin_cases a
  · exact (congrArg (· + n.val + 0) (dif_neg (by decide))).trans (by simp)
  · exact (congrArg (· + b.val + 0) (dif_neg (by decide))).trans (by simp)
  · exact (congrArg (· + 0 + c.val) (dif_neg (by decide))).trans (by simp)
  · exact (congrArg (· + 0 + r.val) (dif_neg (by decide))).trans (by simp)
  · refine (congrArg (· + 0 + 0) (dif_pos (by decide))).trans ?_
    exact congrArg (fun z => min (p z).toInt.toNat 127) hs

section Box

variable (o : IVec S8x64 32) (len : FVec Ideal S8x64 .f32) (lo hi : BitVec 32) (n : Fin 8) (b : Fin 64)
  (ho : o (ix2 n b) = lo) (hlen : len (ix2 n b) = FloatOps.sitofp (F := Ideal) FTy.f32 (IntOp.subi hi lo))

include hlen in
/-- The source coordinate of an output position, -/
theorem refSrc_apply (i : Fin 56) : refSrc len (ix3 n b i) = Axis.src (Axis.len lo hi) i := by
  pointwise [refSrc]
  rw [hlen]
  rfl

/-- A length counted in numbers and back is itself. -/
theorem fptosi_sitofp (d : BitVec 32) : FloatOps.fptosi (F := Ideal) (φ := FTy.f32) 32 (FloatOps.sitofp (F := Ideal) FTy.f32 d) = d :=
  (Axis.fptosi_int d.toInt (by have := BitVec.le_toInt d; norm_num at this; omega) (by have := BitVec.toInt_lt (x := d); norm_num at this; omega)).trans
    (Axis.ofInt_toInt d)

include hlen in
/-- the lower position read inside the box, -/
theorem refLow_apply (i : Fin 56) : refLow len (ix3 n b i) = Axis.low (Axis.len lo hi) (Axis.last lo hi) i := by
  pointwise [refLow, refLast]
  rw [refSrc_apply len lo hi n b hlen, hlen, fptosi_sitofp]
  rfl

include hlen in
/-- the upper one, -/
theorem refHigh_apply (i : Fin 56) : refHigh len (ix3 n b i) = Axis.high (Axis.len lo hi) (Axis.last lo hi) i := by
  pointwise [refHigh, refLast]
  rw [refLow_apply len lo hi n b hlen, hlen, fptosi_sitofp]
  rfl

include hlen in
/-- and the weight. -/
theorem refWt_apply (i : Fin 56) : refSrc len (ix3 n b i) - FloatOps.sitofp (F := Ideal) FTy.f32 (refLow len (ix3 n b i)) = Axis.weight lo hi i := by
  rw [refLow_apply len lo hi n b hlen, refSrc_apply len lo hi n b hlen]
  rfl

include ho hlen in
/-- The lower position as the indexing operation takes it, -/
theorem refPosLow (hv : Axis.Valid lo hi) (i : Fin 56) :
    min (refPos (refAbs o (refLow len)) (ix4 n b i 0)).toInt.toNat 127 = (Axis.posLow lo hi i).toNat := by
  rw [← Axis.wrap_eq _ (Axis.valid_axis lo hi hv i).1]
  pointwise [refPos, refAbs]
  rw [ho, refLow_apply len lo hi n b hlen]
  rfl

include ho hlen in
/-- and the upper one. -/
theorem refPosHigh (hv : Axis.Valid lo hi) (i : Fin 56) :
    min (refPos (refAbs o (refHigh len)) (ix4 n b i 0)).toInt.toNat 127 = (Axis.posHigh lo hi i).toNat := by
  rw [← Axis.wrap_eq _ (Axis.valid_axis lo hi hv i).2.1]
  pointwise [refPos, refAbs]
  rw [ho, refHigh_apply len lo hi n b hlen]
  rfl

include ho hlen in
/-- A box's row is two of the map's rows, each with its weight. -/
theorem refRows_apply (hv : Axis.Valid lo hi) (fm : FVec Ideal S8x32x128x128 .f32) (c : Fin 32) (r : Fin 56) (x : Fin 128) :
    refRows fm o len (ix5 n b c r x)
      = ((fm (ix4 n c ⟨(Axis.posLow lo hi r).toNat, (Axis.valid_axis lo hi hv r).1⟩ x) * (1 - Axis.weight lo hi r)
        + fm (ix4 n c ⟨(Axis.posHigh lo hi r).toNat, (Axis.valid_axis lo hi hv r).2.1⟩ x) * Axis.weight lo hi r : EReal)) := by
  pointwise [refRows, refWt]
  simp only [gatherRows_apply, refWt_apply len lo hi n b hlen, refPosLow o len lo hi n b ho hlen hv, refPosHigh o len lo hi n b ho hlen hv]

include ho hlen in
/-- A box's crop is two of its columns, each with its weight. -/
theorem refCrops_apply (hv : Axis.Valid lo hi) (rows : FVec Ideal S8x64x32x56x128 .f32) (c : Fin 32) (r q : Fin 56) :
    refCrops rows o len (ix5 n b c r q)
      = ((rows (ix5 n b c r ⟨(Axis.posLow lo hi q).toNat, (Axis.valid_axis lo hi hv q).1⟩) * (1 - Axis.weight lo hi q)
        + rows (ix5 n b c r ⟨(Axis.posHigh lo hi q).toNat, (Axis.valid_axis lo hi hv q).2.1⟩) * Axis.weight lo hi q : EReal)) := by
  pointwise [refCrops, refWt]
  simp only [gatherCols_apply, refWt_apply len lo hi n b hlen, refPosLow o len lo hi n b ho hlen hv, refPosHigh o len lo hi n b ho hlen hv]

end Box

/-- A corner of a box. -/
theorem refCorner_apply (bx : IVec S8x64x4 32) (k : Fin 4) (h : S8x64x4.Slices ![0, 0, k.val] S8x64x1) (n : Fin 8) (b : Fin 64) :
    refCorner bx k.val h (ix2 n b) = bx (ix3 n b k) := by
  pointwise [refCorner]
  first | rfl | blk_ext

/-- A box's length along one axis. -/
theorem len_apply {u v : IVec S8x64 32} {x y : BitVec 32} (n : Fin 8) (b : Fin 64) (hu : u (ix2 n b) = x) (hv : v (ix2 n b) = y) :
    (sitofp .f32 (subi u v) : FVec Ideal S8x64 .f32) (ix2 n b) = FloatOps.sitofp (F := Ideal) FTy.f32 (IntOp.subi x y) := by
  rw [← hu, ← hv]
  rfl

/-- The crop of one box, as two weighted sums over a whole channel of its image. -/
theorem refHalf_apply (fm : FVec Ideal S8x32x128x128 .f32) (bx : IVec S8x64x4 32) (n : Fin 8) (b : Fin 64)
    (hx : Axis.Valid (bx (ix3 n b 0)) (bx (ix3 n b 2))) (hy : Axis.Valid (bx (ix3 n b 1)) (bx (ix3 n b 3))) (c : Fin 32) (r q : Fin 56) :
    refHalf fm bx (ix5 n b c r q)
      = (∑ x : Fin 128, (∑ y : Fin 128, Axis.tap (bx (ix3 n b 1)) (bx (ix3 n b 3)) r y * fm (ix4 n c y x))
          * Axis.tap (bx (ix3 n b 0)) (bx (ix3 n b 2)) q x : EReal) := by
  have e0 : refCorner bx 0 slices_S8x64x4_S8x64x1_0_0_0 (ix2 n b) = bx (ix3 n b 0) := refCorner_apply bx 0 slices_S8x64x4_S8x64x1_0_0_0 n b
  have e1 : refCorner bx 1 slices_S8x64x4_S8x64x1_0_0_1 (ix2 n b) = bx (ix3 n b 1) := refCorner_apply bx 1 slices_S8x64x4_S8x64x1_0_0_1 n b
  have e2 : refCorner bx 2 slices_S8x64x4_S8x64x1_0_0_2 (ix2 n b) = bx (ix3 n b 2) := refCorner_apply bx 2 slices_S8x64x4_S8x64x1_0_0_2 n b
  have e3 : refCorner bx 3 slices_S8x64x4_S8x64x1_0_0_3 (ix2 n b) = bx (ix3 n b 3) := refCorner_apply bx 3 slices_S8x64x4_S8x64x1_0_0_3 n b
  unfold refHalf
  rw [refCrops_apply _ _ _ _ n b e0 (len_apply n b e2 e0) hx, refRows_apply _ _ _ _ n b e1 (len_apply n b e3 e1) hy,
    refRows_apply _ _ _ _ n b e1 (len_apply n b e3 e1) hy]
  simp only [mul_comm _ (Axis.tap (bx (ix3 n b 0)) (bx (ix3 n b 2)) q _)]
  rw [Axis.sum_tap _ _ hx, Axis.sum_tap _ _ hy, Axis.sum_tap _ _ hy]
  simp only [mul_comm]

/-- The reference's result at an index. -/
theorem refOut_apply (fm : FVec Ideal S2x8x32x128x128 .f32) (bx : IVec S2x8x64x4 32) (s : Fin 2) (a : Fin 512) (n : Fin 8) (b : Fin 64)
    (hn : n.val = a.val / 64) (hb : b.val = a.val % 64)
    (hx : Axis.Valid (bx (ix4 s n b 0)) (bx (ix4 s n b 2))) (hy : Axis.Valid (bx (ix4 s n b 1)) (bx (ix4 s n b 3))) (c : Fin 32) (r q : Fin 56) :
    refOut fm bx (ix5 s a c r q)
      = (∑ x : Fin 128, (∑ y : Fin 128, Axis.tap (bx (ix4 s n b 1)) (bx (ix4 s n b 3)) r y * fm (ix5 s n c y x))
          * Axis.tap (bx (ix4 s n b 0)) (bx (ix4 s n b 2)) q x : EReal) := by
  have en : (⟨a.val / 64, by omega⟩ : Fin 8) = n := Fin.ext hn.symm
  have eb : (⟨a.val % 64, by omega⟩ : Fin 64) = b := Fin.ext hb.symm
  have slab (fm' : FVec Ideal S8x32x128x128 .f32) (bx' : IVec S8x64x4 32) (hf : ∀ y x, fm' (ix4 n c y x) = fm (ix5 s n c y x))
      (hw : ∀ k, bx' (ix3 n b k) = bx (ix4 s n b k)) : refHalf fm' bx' (ix5 n b c r q)
        = (∑ x : Fin 128, (∑ y : Fin 128, Axis.tap (bx (ix4 s n b 1)) (bx (ix4 s n b 3)) r y * fm (ix5 s n c y x))
          * Axis.tap (bx (ix4 s n b 0)) (bx (ix4 s n b 2)) q x : EReal) := by
    rw [refHalf_apply fm' bx' n b (by rw [hw, hw]; exact hx) (by rw [hw, hw]; exact hy)]
    simp only [hw, hf]
  fin_cases s
  all_goals
    pointwise [refOut, refSlab]
    rw [en, eb]
    refine slab _ _ (fun y x => ?_) (fun k => ?_)
  all_goals pointwise []
  all_goals rfl

end Cert.ReferenceIdeal.Value

end
-- ==== Proof.Boxes.lean ====
/- What the precondition says of a box: along either axis it is nonempty and inside the map. -/
module

public import proofs.«01_k».proof.Pre_boxes_valid
public import proofs.«01_k».proof.Proof.Axis
public import Idealize.ShloMosaic.Lib.ReduceAll
public import Idealize.ShloMosaic.Lib.WordCmp
public import Idealize.ShloMosaic.Lib.Pipeline.ValueKit

@[expose] public section

set_option maxRecDepth 16384

noncomputable section

namespace Cert.Pre_boxes_valid

open Idealize.ShloMosaic

/-- The shape relations the precondition's operations take. -/
theorem facts : Facts where
  slices_S2x8x64x4_S2x8x64x1_0_0_0_0 := by decide
  shapeCasts_S2x8x64x1_S2x8x64 := by decide
  slices_S2x8x64x4_S2x8x64x1_0_0_0_1 := by decide
  slices_S2x8x64x4_S2x8x64x1_0_0_0_2 := by decide
  slices_S2x8x64x4_S2x8x64x1_0_0_0_3 := by decide
  bcast_S_S2x8x64 := by decide
  reducesTo_S2x8x64_S_d0_1_2 := by decide
  h_S_ := by decide

variable [Facts]

/-- Every box the precondition holds of is nonempty and inside the map along both axes. -/
theorem valid (fm : FVec Ideal S2x8x32x128x128 .f32) (bx : IVec S2x8x64x4 32) (h : fn fm bx = fun _ => 1#1) (n : Fin 2) (s : Fin 8) (b : Fin 64) :
    Axis.Valid (bx (ix4 n s b 0)) (bx (ix4 n s b 2)) ∧ Axis.Valid (bx (ix4 n s b 1)) (bx (ix4 n s b 3)) := by
  have e := congrFun h (Shape.Idx.first Facts.h_S_)
  unfold fn fn_part1 at e
  have : Subsingleton S_.Idx := ⟨fun a b => funext fun i => i.elim0⟩
  have e := Host.reduce_andi_all _ _ _ _ _ e (ix3 n s b)
  revert e
  pointwise []
  simp only [IntOp.andi_eq_one, IntOp.cmpi_sge, IntOp.cmpi_slt, IntOp.cmpi_sle]
  rintro ⟨⟨⟨⟨⟨h1, h2⟩, h3⟩, h4⟩, h5⟩, h6⟩
  exact ⟨⟨h1, h2, h3⟩, ⟨h4, h5, h6⟩⟩

end Cert.Pre_boxes_valid

end
-- ==== Proof.Result.lean ====
/- The kernel's result is the reference's, for boxes the precondition holds of. -/
module

public import proofs.«01_k».proof.Defs
public import proofs.«01_k».proof.Proof.Grid
public import proofs.«01_k».proof.Proof.Taps
public import proofs.«01_k».proof.Proof.Ref
public import proofs.«01_k».proof.Proof.Boxes

@[expose] public section

set_option maxRecDepth 16384

noncomputable section

namespace Cert.Result

open Idealize.ShloMosaic Idealize.ShloMosaic.TcCoe Idealize.SL.Sem
open Cert.KernelIdeal.Value

section Arrays

open Cert.KernelIdeal Cert.KernelIdeal.Gen

/-- Splitting the rows of an array of crops into channels and output rows, read at an index. -/
theorem split_apply (Z : FVec Ideal S2x512x1792x56 .f32) (n : Fin 2) (a : Fin 512) (c : Fin 32) (r q : Fin 56) :
    (shapeCast S2x512x32x56x56 Z shapeCasts_S2x512x1792x56_S2x512x32x56x56 : FVec Ideal S2x512x32x56x56 .f32) (ix5 n a c r q)
      = Z (ix4 n a (row56 1792 c r) q) := by
  pointwise []
  refine congrArg Z (funext fun k => Fin.ext ?_)
  fin_cases k
  all_goals first | rfl | exact (congrArg (· + r.val) (Nat.mul_comm c.val 56))

/-- A crop in the kernel's array, as two weighted sums over a whole channel of its image. -/
theorem cropArray_apply (fm : FVec Ideal S2x8x32x128x128 .f32) (bx : IVec S2x8x64x4 32) (n : Fin 2) (a : Fin 512) (s : Fin 8) (b : Fin 64)
    (hs : s.val = a.val / 64) (hb : b.val = a.val % 64) (c : Fin 32) (r q : Fin 56) :
    cropArray fm bx (ix4 n a (row56 1792 c r) q)
      = (∑ x : Fin 128, (∑ y : Fin 128, Axis.tap (bx (ix4 n s b 1)) (bx (ix4 n s b 3)) r y * fm (ix5 n s c y x))
          * Axis.tap (bx (ix4 n s b 0)) (bx (ix4 n s b 2)) q x : EReal) := by
  have e : cropArray fm bx (ix4 n a (row56 1792 c r) q) = crop fm bx n s b c r q := by
    unfold cropArray
    congr 1
    · exact Fin.ext hs.symm
    · exact Fin.ext hb.symm
    · exact Fin.ext (row56_div c r rfl)
    · exact Fin.ext (row56_mod c r rfl)
  rw [e]
  unfold crop
  simp only [WY_apply, WX_apply]

/-- The kernel's array, its rows split into channels and output rows, is the reference's result. -/
theorem crops_eq (fm : FVec Ideal S2x8x32x128x128 .f32) (bx : IVec S2x8x64x4 32)
    (hv : ∀ (n : Fin 2) (s : Fin 8) (b : Fin 64), Axis.Valid (bx (ix4 n s b 0)) (bx (ix4 n s b 2)) ∧ Axis.Valid (bx (ix4 n s b 1)) (bx (ix4 n s b 3))) :
    (shapeCast S2x512x32x56x56 (cropArray fm bx) shapeCasts_S2x512x1792x56_S2x512x32x56x56 : FVec Ideal S2x512x32x56x56 .f32)
      = Cert.ReferenceIdeal.Value.refOut fm bx := by
  funext i
  obtain ⟨n, a, c, r, q, rfl⟩ : ∃ n a c r q, i = ix5 n a c r q := ⟨i 0, i 1, i 2, i 3, i 4, by funext k; fin_cases k <;> rfl⟩
  exact (split_apply _ n a c r q).trans
    ((cropArray_apply fm bx n a ⟨a.val / 64, by omega⟩ ⟨a.val % 64, by omega⟩ rfl rfl c r q).trans
      (Cert.ReferenceIdeal.Value.refOut_apply fm bx n a ⟨a.val / 64, by omega⟩ ⟨a.val % 64, by omega⟩ rfl rfl (hv _ _ _).1 (hv _ _ _).2 c r q).symm)

/-- What the kernel's run leaves in its result: the array of crops, split. -/
theorem result_eq (m : (ℓ : Loc nD τ sig) → Buf (Elt Ideal) ℓ) (c : Dev nD) :
    Pipeline.afterTail₀ cfgs (dats m) 0 (V0 m) [hostOps1] c main_v3
      = (shapeCast S2x512x32x56x56 (cropArray (m ((c.tc : Thread nD τ).loc main_arg0)) (m ((c.tc : Thread nD τ).loc main_arg1)))
          shapeCasts_S2x512x1792x56_S2x512x32x56x56 : FVec Ideal S2x512x32x56x56 .f32) := by
  have e := (Pipeline.withArrays_arr spec0 (by decide) c (V0 m c) (fun w => (dats m 0 c).arrAt w cfg0.N) 2).trans (final m c)
  unfold Pipeline.afterTail₀
  simp only [hostOps1, List.flatten_cons, List.flatten_nil, List.append_nil, StableHlo.after_cons, StableHlo.after_nil]
  refine (StableHlo.reshape_result main_v2 main_v3 _ _ _ _ _).trans ?_
  funext i
  exact congrArg (fun Z : FVec Ideal S2x512x1792x56 .f32 => shapeCast S2x512x32x56x56 Z shapeCasts_S2x512x1792x56_S2x512x32x56x56 i) e

end Arrays

/-- The kernel, in exact arithmetic, computes the reference. -/
theorem algebraic [Cert.Pre_boxes_valid.Facts] : @Cert.algebraic_KernelIdeal_ReferenceIdeal_pre_boxes_valid Cert.KernelIdeal.Gen.facts Cert.ReferenceIdeal.Gen.facts _ := by
  intro m g m' g' hpre hagree
  refine ⟨fun c => Cert.ReferenceIdeal.Value.refOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)), ?_, ?_⟩
  · run_from Cert.KernelIdeal.Gen.run_main m g
    · exact (result_eq m c).trans (crops_eq _ _ (Cert.Pre_boxes_valid.valid _ _ (hpre c)))
    · exact Cert.KernelIdeal.Gen.W_main_arg0 m _ c
    · exact Cert.KernelIdeal.Gen.W_main_arg1 m _ c
  · run_from Cert.ReferenceIdeal.Value.run_refOut m' g'

end Cert.Result

end
-- ==== Proof.lean ====
module

public import proofs.«01_k».proof.Defs
public import proofs.«01_k».proof.Proof.Gen.Kernel.Frame
public import proofs.«01_k».proof.Proof.Result
public import Idealize.ShloMosaic.Lib.Quiescent

@[expose] public section

noncomputable section

namespace Cert.Proof

open Idealize.ShloMosaic Idealize.ShloMosaic.TcCoe Idealize.SL.Sem

/-- The reference runs, leaves its arguments alone, and ends with every counter at zero. -/
theorem reference_frame : @Cert.quiescent_ReferenceIdeal Cert.ReferenceIdeal.Gen.facts := by
  intro m g _
  hlo_run
  · exact fun _ => ⟨trivial, trivial⟩
  · exact sem_eq_zero_of_no_sems (sig := Cert.ReferenceIdeal.sig) (by decide) _

theorem claim : Cert.Claim :=
  ⟨Cert.Kernel.Gen.facts, Cert.KernelIdeal.Gen.facts, Cert.ReferenceIdeal.Gen.facts, Cert.Pre_boxes_valid.facts,
    fun m g _ => Cert.Kernel.Gen.frame m g, fun m g _ => Cert.KernelIdeal.Gen.frame m g, fun m g _ => Cert.KernelIdeal.Gen.frame m g,
    reference_frame, fun m g _ => reference_frame m g trivial, trivial,
    @Cert.Result.algebraic Cert.Pre_boxes_valid.facts⟩

end Cert.Proof

end
